-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S1 : Shape := ⟨1, ![1]⟩
abbrev S4096x4096 : Shape := ⟨2, ![4096, 4096]⟩
abbrev S3x3x4 : Shape := ⟨3, ![3, 3, 4]⟩
abbrev S_ : Shape := ⟨0, ![]⟩
abbrev S1x1x1 : Shape := ⟨3, ![1, 1, 1]⟩
abbrev S160x4096 : Shape := ⟨2, ![160, 4096]⟩
abbrev S192x4096 : Shape := ⟨2, ![192, 4096]⟩
abbrev S512x256 : Shape := ⟨2, ![512, 256]⟩
abbrev S160x256 : Shape := ⟨2, ![160, 256]⟩
abbrev S192x256 : Shape := ⟨2, ![192, 256]⟩

abbrev nBuf : Space → Nat
  | .hbm => 5
  | .vmem => 4
  | .smem => 2
  | _ => 0

abbrev bufTy : (tb : Table) → Fin (tcTables nBuf tb) → BufTy
  | .hbm, ⟨0, _⟩ => ⟨S512x4096, .fp8e4m3⟩
  | .hbm, ⟨1, _⟩ => ⟨S4096x256, .fp8e5m2⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .fp8e4m3⟩
  | .local _ .vmem, ⟨1, _⟩ => ⟨S4096x256, .fp8e5m2⟩
  | .local _ .vmem, ⟨2, _⟩ => ⟨S4096x256, .f32⟩
  | .local _ .vmem, ⟨3, _⟩ => ⟨S4096x4096, .fp8e4m3⟩
  | .local _ .smem, ⟨0, _⟩ => ⟨S1, .f32⟩
  | .local _ .smem, ⟨1, _⟩ => ⟨S1, .f32⟩
  | _, _ => ⟨S512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  (ofTc nBuf bufTy 1 77 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c0_i32_10 : BitVec 32) (c0_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : BitVec 32 := Scalar.xori v2 c0_i32_10
  let c512_i32 : BitVec 32 := 512#32
  let v14 : BitVec 32 := Scalar.muli v13 c512_i32
  let v15 : BitVec 32 := Scalar.addi v14 c0_i32_11
  let c0_i32_21 : BitVec 32 := 0#32
  ![v15.toNat, 0]
def k0_off1_at (r : Fin 8) : BitVec 32 × BitVec 32 :=
  if r.val < 4 then
    if r.val < 2 then
      if r.val < 1 then
        (0#32, 0#32)
      else
        (0#32, 160#32)
    else
      if r.val < 3 then
        (1#32, 0#32)
      else
        (3#32, 0#32)
  else
    if r.val < 6 then
      if r.val < 5 then
        (3#32, 160#32)
      else
        (4#32, 160#32)
    else
      if r.val < 7 then
        (2#32, 0#32)
      else
        (7#32, 160#32)
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v16 : BitVec 32 := Scalar.xori v2 c1_i32_12
  let c1_i32_19 : BitVec 32 := 1#32
  let v17 : BitVec 32 := Scalar.muli v16 c1_i32_19
  let v18 : BitVec 32 := Scalar.addi c0_i32_20 v17
  v18.toNat
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_27 : BitVec 32 := 3#32
  let v28 : BitVec 32 := Scalar.xori v2 c3_i32_27
  let c1_i32_34 : BitVec 32 := 1#32
  let v29 : BitVec 32 := Scalar.muli v28 c1_i32_34
  let v30 : BitVec 32 := Scalar.addi c0_i32_35 v29
  v30.toNat
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_42 : BitVec 32 := 4#32
  let v40 : BitVec 32 := Scalar.xori v2 c4_i32_42
  let c1_i32_48 : BitVec 32 := 1#32
  let v41 : BitVec 32 := Scalar.muli v40 c1_i32_48
  let v42 : BitVec 32 := Scalar.addi c0_i32_49 v41
  v42.toNat
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_55 : BitVec 32 := 3#32
  let v52 : BitVec 32 := Scalar.xori v2 c3_i32_55
  let c1_i32_62 : BitVec 32 := 1#32
  let v53 : BitVec 32 := Scalar.muli v52 c1_i32_62
  let v54 : BitVec 32 := Scalar.addi c0_i32_63 v53
  v54.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v64 : BitVec 32 := Scalar.xori v2 c4_i32_70
  let c1_i32_77 : BitVec 32 := 1#32
  let v65 : BitVec 32 := Scalar.muli v64 c1_i32_77
  let v66 : BitVec 32 := Scalar.addi c0_i32_78 v65
  v66.toNat
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v76 : BitVec 32 := Scalar.xori v2 c1_i32_85
  let c1_i32_92 : BitVec 32 := 1#32
  let v77 : BitVec 32 := Scalar.muli v76 c1_i32_92
  let v78 : BitVec 32 := Scalar.addi c0_i32_93 v77
  v78.toNat
def k0_off2 (d0 : Dev nD) (c0_i32_97 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v85 : BitVec 32 := Scalar.xori v2 c0_i32_97
  let c512_i32_98 : BitVec 32 := 512#32
  let v86 : BitVec 32 := Scalar.muli v85 c512_i32_98
  let c320_i32 : BitVec 32 := 320#32
  let v87 : BitVec 32 := Scalar.addi v86 c320_i32
  let c0_i32_108 : BitVec 32 := 0#32
  ![v87.toNat, 0]
def k0_off2_at (r : Fin 4) : BitVec 32 :=
  if r.val < 2 then
    if r.val < 1 then
      0#32
    else
      4#32
  else
    if r.val < 3 then
      1#32
    else
      5#32
def k0_dev10 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_99 : BitVec 32 := 4#32
  let v88 : BitVec 32 := Scalar.xori v2 c4_i32_99
  let c1_i32_106 : BitVec 32 := 1#32
  let v89 : BitVec 32 := Scalar.muli v88 c1_i32_106
  let v90 : BitVec 32 := Scalar.addi c0_i32_107 v89
  v90.toNat
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v100 : BitVec 32 := Scalar.xori v2 c1_i32_114
  let c1_i32_121 : BitVec 32 := 1#32
  let v101 : BitVec 32 := Scalar.muli v100 c1_i32_121
  let v102 : BitVec 32 := Scalar.addi c0_i32_122 v101
  v102.toNat
def k0_dev12 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_129 : BitVec 32 := 3#32
  let v112 : BitVec 32 := Scalar.xori v2 c3_i32_129
  let c1_i32_136 : BitVec 32 := 1#32
  let v113 : BitVec 32 := Scalar.muli v112 c1_i32_136
  let v114 : BitVec 32 := Scalar.addi c0_i32_137 v113
  v114.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_141 : BitVec 32 := 512#32
  let v121 : BitVec 32 := Scalar.muli v2 c512_i32_141
  let v134 : Index := Scalar.indexCast v121
  let c0_148 : Index := 0#32
  ![v134.toNat, 0]
def k0_off4 (d0 : Dev nD) (c1_i32_149 : BitVec 32) (c0_i32_150 : BitVec 32) (c0_i32_152 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v136 : BitVec 32 := Scalar.xori v2 c1_i32_149
  let v137 : BitVec 32 := Scalar.xori v136 c0_i32_150
  let c512_i32_151 : BitVec 32 := 512#32
  let v138 : BitVec 32 := Scalar.muli v137 c512_i32_151
  let v139 : BitVec 32 := Scalar.addi v138 c0_i32_152
  let c0_i32_162 : BitVec 32 := 0#32
  ![v139.toNat, 0]
def k0_off4_at (r : Fin 14) : BitVec 32 × BitVec 32 × BitVec 32 :=
  if r.val < 7 then
    if r.val < 3 then
      if r.val < 1 then
        (1#32, 0#32, 0#32)
      else
        if r.val < 2 then
          (3#32, 0#32, 0#32)
        else
          (4#32, 0#32, 0#32)
    else
      if r.val < 5 then
        if r.val < 4 then
          (3#32, 0#32, 160#32)
        else
          (4#32, 0#32, 160#32)
      else
        if r.val < 6 then
          (1#32, 0#32, 160#32)
        else
          (3#32, 1#32, 0#32)
  else
    if r.val < 10 then
      if r.val < 8 then
        (4#32, 1#32, 0#32)
      else
        if r.val < 9 then
          (1#32, 3#32, 160#32)
        else
          (1#32, 4#32, 160#32)
    else
      if r.val < 12 then
        if r.val < 11 then
          (4#32, 3#32, 0#32)
        else
          (4#32, 3#32, 160#32)
      else
        if r.val < 13 then
          (4#32, 2#32, 0#32)
        else
          (1#32, 7#32, 160#32)
def k0_dev13 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_167 : BitVec 32 := 3#32
  let v150 : BitVec 32 := Scalar.xori v2 c3_i32_167
  let c1_i32_174 : BitVec 32 := 1#32
  let v151 : BitVec 32 := Scalar.muli v150 c1_i32_174
  let v152 : BitVec 32 := Scalar.addi c0_i32_175 v151
  v152.toNat
def k0_dev14 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_181 : BitVec 32 := 4#32
  let v162 : BitVec 32 := Scalar.xori v2 c4_i32_181
  let c1_i32_188 : BitVec 32 := 1#32
  let v163 : BitVec 32 := Scalar.muli v162 c1_i32_188
  let v164 : BitVec 32 := Scalar.addi c0_i32_189 v163
  v164.toNat
def k0_off5 (d0 : Dev nD) (c1_i32_149 : BitVec 32) (c0_i32_150 : BitVec 32) (c0_i32_152 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v136 : BitVec 32 := Scalar.xori v2 c1_i32_149
  let v137 : BitVec 32 := Scalar.xori v136 c0_i32_150
  let c512_i32_151 : BitVec 32 := 512#32
  let v138 : BitVec 32 := Scalar.muli v137 c512_i32_151
  let v139 : BitVec 32 := Scalar.addi v138 c0_i32_152
  let v171 : Index := Scalar.indexCast v139
  let c0_192 : Index := 0#32
  ![v171.toNat, 0]
def k0_off5_at (r : Fin 14) : BitVec 32 × BitVec 32 × BitVec 32 :=
  if r.val < 7 then
    if r.val < 3 then
      if r.val < 1 then
        (1#32, 0#32, 0#32)
      else
        if r.val < 2 then
          (3#32, 0#32, 0#32)
        else
          (4#32, 0#32, 0#32)
    else
      if r.val < 5 then
        if r.val < 4 then
          (3#32, 0#32, 160#32)
        else
          (4#32, 0#32, 160#32)
      else
        if r.val < 6 then
          (1#32, 0#32, 160#32)
        else
          (3#32, 1#32, 0#32)
  else
    if r.val < 10 then
      if r.val < 8 then
        (4#32, 1#32, 0#32)
      else
        if r.val < 9 then
          (1#32, 3#32, 160#32)
        else
          (1#32, 4#32, 160#32)
    else
      if r.val < 12 then
        if r.val < 11 then
          (4#32, 3#32, 0#32)
        else
          (4#32, 3#32, 160#32)
      else
        if r.val < 13 then
          (4#32, 2#32, 0#32)
        else
          (1#32, 7#32, 160#32)
def k0_off6 (d0 : Dev nD) (c1_i32_149 : BitVec 32) (c0_i32_150 : BitVec 32) (c0_i32_152 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v136 : BitVec 32 := Scalar.xori v2 c1_i32_149
  let v137 : BitVec 32 := Scalar.xori v136 c0_i32_150
  let c512_i32_151 : BitVec 32 := 512#32
  let v138 : BitVec 32 := Scalar.muli v137 c512_i32_151
  let v139 : BitVec 32 := Scalar.addi v138 c0_i32_152
  let v183 : Index := Scalar.indexCast v139
  let c0_199 : Index := 0#32
  ![v183.toNat, 0]
def k0_off6_at (r : Fin 14) : BitVec 32 × BitVec 32 × BitVec 32 :=
  if r.val < 7 then
    if r.val < 3 then
      if r.val < 1 then
        (1#32, 0#32, 0#32)
      else
        if r.val < 2 then
          (3#32, 0#32, 0#32)
        else
          (4#32, 0#32, 0#32)
    else
      if r.val < 5 then
        if r.val < 4 then
          (3#32, 0#32, 160#32)
        else
          (4#32, 0#32, 160#32)
      else
        if r.val < 6 then
          (1#32, 0#32, 160#32)
        else
          (3#32, 1#32, 0#32)
  else
    if r.val < 10 then
      if r.val < 8 then
        (4#32, 1#32, 0#32)
      else
        if r.val < 9 then
          (1#32, 3#32, 160#32)
        else
          (1#32, 4#32, 160#32)
    else
      if r.val < 12 then
        if r.val < 11 then
          (4#32, 3#32, 0#32)
        else
          (4#32, 3#32, 160#32)
      else
        if r.val < 13 then
          (4#32, 2#32, 0#32)
        else
          (1#32, 7#32, 160#32)
def k0_dev15 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_218 : BitVec 32 := 4#32
  let v199 : BitVec 32 := Scalar.xori v2 c4_i32_218
  let c1_i32_225 : BitVec 32 := 1#32
  let v200 : BitVec 32 := Scalar.muli v199 c1_i32_225
  let v201 : BitVec 32 := Scalar.addi c0_i32_226 v200
  v201.toNat
def k0_dev16 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_278 : BitVec 32 := 4#32
  let v261 : BitVec 32 := Scalar.xori v2 c4_i32_278
  let c1_i32_285 : BitVec 32 := 1#32
  let v262 : BitVec 32 := Scalar.muli v261 c1_i32_285
  let v263 : BitVec 32 := Scalar.addi c0_i32_286 v262
  v263.toNat
def k0_dev17 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_292 : BitVec 32 := 1#32
  let v273 : BitVec 32 := Scalar.xori v2 c1_i32_292
  let c1_i32_299 : BitVec 32 := 1#32
  let v274 : BitVec 32 := Scalar.muli v273 c1_i32_299
  let v275 : BitVec 32 := Scalar.addi c0_i32_300 v274
  v275.toNat
def k0_dev18 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_329 : BitVec 32 := 1#32
  let v310 : BitVec 32 := Scalar.xori v2 c1_i32_329
  let c1_i32_336 : BitVec 32 := 1#32
  let v311 : BitVec 32 := Scalar.muli v310 c1_i32_336
  let v312 : BitVec 32 := Scalar.addi c0_i32_337 v311
  v312.toNat
def k0_off7 (d0 : Dev nD) (c4_i32_371 : BitVec 32) (c0_i32_372 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v358 : BitVec 32 := Scalar.xori v2 c4_i32_371
  let v359 : BitVec 32 := Scalar.xori v358 c0_i32_372
  let c512_i32_373 : BitVec 32 := 512#32
  let v360 : BitVec 32 := Scalar.muli v359 c512_i32_373
  let c320_i32_374 : BitVec 32 := 320#32
  let v361 : BitVec 32 := Scalar.addi v360 c320_i32_374
  let c0_i32_384 : BitVec 32 := 0#32
  ![v361.toNat, 0]
def k0_off7_at (r : Fin 7) : BitVec 32 × BitVec 32 :=
  if r.val < 3 then
    if r.val < 1 then
      (4#32, 0#32)
    else
      if r.val < 2 then
        (1#32, 0#32)
      else
        (3#32, 0#32)
  else
    if r.val < 5 then
      if r.val < 4 then
        (1#32, 4#32)
      else
        (3#32, 1#32)
    else
      if r.val < 6 then
        (3#32, 4#32)
      else
        (3#32, 5#32)
def k0_dev19 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_389 : BitVec 32 := 1#32
  let v372 : BitVec 32 := Scalar.xori v2 c1_i32_389
  let c1_i32_396 : BitVec 32 := 1#32
  let v373 : BitVec 32 := Scalar.muli v372 c1_i32_396
  let v374 : BitVec 32 := Scalar.addi c0_i32_397 v373
  v374.toNat
def k0_dev20 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_403 : BitVec 32 := 3#32
  let v384 : BitVec 32 := Scalar.xori v2 c3_i32_403
  let c1_i32_410 : BitVec 32 := 1#32
  let v385 : BitVec 32 := Scalar.muli v384 c1_i32_410
  let v386 : BitVec 32 := Scalar.addi c0_i32_411 v385
  v386.toNat
def k0_off8 (d0 : Dev nD) (c4_i32_371 : BitVec 32) (c0_i32_372 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v358 : BitVec 32 := Scalar.xori v2 c4_i32_371
  let v359 : BitVec 32 := Scalar.xori v358 c0_i32_372
  let c512_i32_373 : BitVec 32 := 512#32
  let v360 : BitVec 32 := Scalar.muli v359 c512_i32_373
  let c320_i32_374 : BitVec 32 := 320#32
  let v361 : BitVec 32 := Scalar.addi v360 c320_i32_374
  let v393 : Index := Scalar.indexCast v361
  let c0_414 : Index := 0#32
  ![v393.toNat, 0]
def k0_off8_at (r : Fin 7) : BitVec 32 × BitVec 32 :=
  if r.val < 3 then
    if r.val < 1 then
      (4#32, 0#32)
    else
      if r.val < 2 then
        (1#32, 0#32)
      else
        (3#32, 0#32)
  else
    if r.val < 5 then
      if r.val < 4 then
        (1#32, 4#32)
      else
        (3#32, 1#32)
    else
      if r.val < 6 then
        (3#32, 4#32)
      else
        (3#32, 5#32)
def k0_off9 (d0 : Dev nD) (c4_i32_371 : BitVec 32) (c0_i32_372 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v358 : BitVec 32 := Scalar.xori v2 c4_i32_371
  let v359 : BitVec 32 := Scalar.xori v358 c0_i32_372
  let c512_i32_373 : BitVec 32 := 512#32
  let v360 : BitVec 32 := Scalar.muli v359 c512_i32_373
  let c320_i32_374 : BitVec 32 := 320#32
  let v361 : BitVec 32 := Scalar.addi v360 c320_i32_374
  let v405 : Index := Scalar.indexCast v361
  let c0_421 : Index := 0#32
  ![v405.toNat, 0]
def k0_off9_at (r : Fin 7) : BitVec 32 × BitVec 32 :=
  if r.val < 3 then
    if r.val < 1 then
      (4#32, 0#32)
    else
      if r.val < 2 then
        (1#32, 0#32)
      else
        (3#32, 0#32)
  else
    if r.val < 5 then
      if r.val < 4 then
        (1#32, 4#32)
      else
        (3#32, 1#32)
    else
      if r.val < 6 then
        (3#32, 4#32)
      else
        (3#32, 5#32)
def k0_dev21 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_440 : BitVec 32 := 3#32
  let v421 : BitVec 32 := Scalar.xori v2 c3_i32_440
  let c1_i32_447 : BitVec 32 := 1#32
  let v422 : BitVec 32 := Scalar.muli v421 c1_i32_447
  let v423 : BitVec 32 := Scalar.addi c0_i32_448 v422
  v423.toNat
def k0_dev22 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_500 : BitVec 32 := 4#32
  let v483 : BitVec 32 := Scalar.xori v2 c4_i32_500
  let c1_i32_507 : BitVec 32 := 1#32
  let v484 : BitVec 32 := Scalar.muli v483 c1_i32_507
  let v485 : BitVec 32 := Scalar.addi c0_i32_508 v484
  v485.toNat
def k0_dev23 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_628 : BitVec 32 := 3#32
  let v620 : BitVec 32 := Scalar.xori v2 c3_i32_628
  let c1_i32_635 : BitVec 32 := 1#32
  let v621 : BitVec 32 := Scalar.muli v620 c1_i32_635
  let v622 : BitVec 32 := Scalar.addi c0_i32_636 v621
  v622.toNat
def k0_dev24 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_687 : BitVec 32 := 1#32
  let v682 : BitVec 32 := Scalar.xori v2 c1_i32_687
  let c1_i32_694 : BitVec 32 := 1#32
  let v683 : BitVec 32 := Scalar.muli v682 c1_i32_694
  let v684 : BitVec 32 := Scalar.addi c0_i32_695 v683
  v684.toNat
abbrev stage0_0 : Fin 1 → Memref sig .tc .vmem S512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Protocol.lean ====
/-
# The kernel's protocol

Eight devices hold 512 rows of `x` each and gather all 4096 rows while multiplying. The gather is a binary exchange
in three directions at once: `c` and `c ^ 1`, `c ^ 3`, `c ^ 4` are neighbours. The rows of a block are cut into three
streams (160, 160 and 192 rows); stream `s` uses the directions in an order of its own. In round `r` of a stream a
device sends to its neighbour in that round's direction every piece it holds of the stream: its own and those that came
in earlier rounds, `2 ^ r` pieces.

A transfer is numbered `x = 12 s + 4 r + j` (piece `j` of round `r` of stream `s`): the index of its send semaphore
and of its receive semaphore. Of the 36 numbers the 21 with `j < 2 ^ r` are used.

* Barrier: every device signals its three neighbours' barrier semaphore and waits for three. The signal of `c ^ g` to
  `c` hands over the rows of `c ^ g`'s gather buffer that `c` will write.
* Transfer `x` from `c` goes to `c ^ tg x` and carries the rows of block `c ^ mk x`; its landing on the receive
  semaphore hands the target those rows, holding that block; its completion on the send semaphore hands `c` back the
  share of the source.
* Each semaphore is used once. A device starts the nine transfers of its own rows, then takes the landings one by one,
  passing on what has to be passed on, and waits for its own sends at the end, when it owes nothing.
* Levels: barrier 1, receive of the first piece 2, of the second and third 3, of the fourth 4: a landing is waited for
  only while what is still owed lies higher.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise.Index

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the gather's (duties named by the three directions) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The transfers -/

/-- A transfer's number, `12 s + 4 r + j`. -/
abbrev X : Type := Fin 36

set_option backward.proofsInPublic true in
/-- The device across `k`. -/
def bx (c : Dev nD) (k : ℕ) : Dev nD := ⟨(c.val ^^^ k) % 8, Nat.mod_lt _ (by decide)⟩

/-- The three directions. -/
def dir (g : Fin 3) : ℕ := [1, 3, 4].getD g.val 0
/-- The direction of a transfer, as a number of the list. -/
def dn (x : X) : Fin 3 := [0, 1, 2, 1, 2, 0, 2, 0, 1].getD (x.val / 4) 0
/-- How far a transfer's target is from the sender. -/
def tg (x : X) : ℕ := dir (dn x)
/-- How far the block a transfer carries is from the sender. -/
def mk (x : X) : ℕ := [0, 1, 3, 2, 0, 3, 4, 7, 0, 4, 1, 5].getD (x.val / 12 * 4 + x.val % 4) 0
/-- How far the block a transfer brings is from the receiver. -/
def rk (x : X) : ℕ := tg x ^^^ mk x
/-- The first row, within a block, of a transfer's stream, and the number of its rows. -/
def off (x : X) : ℕ := [0, 160, 320].getD (x.val / 12) 0
def len (x : X) : ℕ := [160, 160, 192].getD (x.val / 12) 0
/-- The numbers that are used. -/
def used : Finset X := Finset.univ.filter fun x => x.val % 4 < 2 ^ (x.val / 4 % 3)

/-- The order in which transfers are started, landings taken, and sends waited for. -/
def sendOrd (n : ℕ) : X :=
  [0, 4, 8, 12, 16, 20, 24, 28, 32, 5, 9, 10, 17, 21, 22, 29, 33, 34, 11, 35, 23].getD n 0
def recvOrd (n : ℕ) : X :=
  [0, 4, 8, 12, 16, 20, 24, 28, 32, 5, 9, 21, 22, 10, 29, 34, 17, 33, 11, 23, 35].getD n 0
def waitOrd (n : ℕ) : X :=
  [0, 4, 5, 8, 9, 10, 11, 12, 16, 17, 20, 21, 22, 23, 24, 28, 29, 32, 33, 34, 35].getD n 0
/-- How many transfers can be started when `n` landings have been taken. -/
def avail (n : ℕ) : ℕ :=
  [9, 11, 12, 12, 14, 15, 15, 17, 18, 18, 19, 19, 19, 19, 19, 20, 20, 21, 21, 21, 21].getD n 21
/-- The landing that brings what the `n`-th transfer passes on. -/
def srcOf (n : ℕ) : ℕ := [0, 0, 0, 0, 0, 0, 0, 0, 0, 0, 0, 1, 3, 3, 4, 6, 6, 7, 9, 14, 16].getD n 0
/-- Which share of its source a transfer takes. -/
def tk (x : X) : ℕ := if x.val % 4 = 0 then x.val / 4 % 3 else if x.val % 12 = 9 then 1 else 0

theorem bx_bx (c : Dev nD) (x : X) : bx (bx c (tg x)) (tg x) = c := by revert c x; decide +kernel
theorem bx_rk (c : Dev nD) (x : X) : bx (bx c (tg x)) (rk x) = bx c (mk x) := by revert c x; decide +kernel
theorem bx_dir (c : Dev nD) (g : Fin 3) : bx (bx c (dir g)) (dir g) = c := by revert c g; decide +kernel
theorem bx_zero (c : Dev nD) : bx c 0 = c := by revert c; decide +kernel

/-- The device across a direction, as a permutation of the devices. -/
def across (g : Fin 3) : Dev nD ≃ Dev nD := ⟨(bx · (dir g)), (bx · (dir g)), (bx_dir · g), (bx_dir · g)⟩

theorem sendOrd_injOn : Set.InjOn sendOrd (Finset.range 21) := by
  have : ∀ a ∈ Finset.range 21, ∀ b ∈ Finset.range 21, sendOrd a = sendOrd b → a = b := by decide +kernel
  exact fun a ha b hb => this a ha b hb
theorem recvOrd_injOn : Set.InjOn recvOrd (Finset.range 21) := by
  have : ∀ a ∈ Finset.range 21, ∀ b ∈ Finset.range 21, recvOrd a = recvOrd b → a = b := by decide +kernel
  exact fun a ha b hb => this a ha b hb
theorem waitOrd_injOn : Set.InjOn waitOrd (Finset.range 21) := by
  have : ∀ a ∈ Finset.range 21, ∀ b ∈ Finset.range 21, waitOrd a = waitOrd b → a = b := by decide +kernel
  exact fun a ha b hb => this a ha b hb
theorem sendOrd_image : (Finset.range 21).image sendOrd = used := by decide +kernel
theorem recvOrd_image : (Finset.range 21).image recvOrd = used := by decide +kernel
theorem waitOrd_image : (Finset.range 21).image waitOrd = used := by decide +kernel

/-! ## The memrefs and cells -/

abbrev xM : Memref sig .tc .vmem S512x4096 .fp8e4m3 := Memref.whole cc0_stg0_0
abbrev wM : Memref sig .tc .vmem S4096x256 .fp8e5m2 := Memref.whole cc0_stg1_0
abbrev axM : Memref sig .tc .smem S1 .f32 := Memref.whole cc0_stg2_0
abbrev awM : Memref sig .tc .smem S1 .f32 := Memref.whole cc0_stg3_0
abbrev oM : Memref sig .tc .vmem S4096x256 .f32 := Memref.whole cc0_stg4_0
abbrev gM : Memref sig .tc .vmem S4096x4096 .fp8e4m3 := Memref.whole cc0_scratch0

abbrev barS : Sem sig := (SemArray.scalar (sig.barrier 0 rfl) : Sems sig S_).sem
set_option backward.proofsInPublic true in
def sendS (x : X) : DmaSem sig := ⟨5 + x.val, by have := x.isLt; show 5 + x.val < 77; omega⟩
set_option backward.proofsInPublic true in
def recvS (x : X) : DmaSem sig := ⟨41 + x.val, by have := x.isLt; show 41 + x.val < 77; omega⟩

abbrev barCell (c : Dev nD) : GSem nD τ sig := ((c : Thread nD τ), .reg barS)
abbrev sendCell (c : Dev nD) (x : X) : GSem nD τ sig := ((c : Thread nD τ), .dma (sendS x))
abbrev recvCell (c : Dev nD) (x : X) : GSem nD τ sig := ((c : Thread nD τ), .dma (recvS x))

/-- What a semaphore is for. -/
inductive Use where
  | bar | send (x : X) | recv (x : X) | other
  deriving DecidableEq

set_option backward.proofsInPublic true in
def useOf : SemLoc sig → Use
  | .reg q => if q = barS then .bar else .other
  | .dma q => if h : 5 ≤ q.val ∧ q.val < 41 then .send ⟨q.val - 5, by omega⟩
      else if h : 41 ≤ q.val ∧ q.val < 77 then .recv ⟨q.val - 41, by omega⟩ else .other

theorem useOf_bar : useOf (.reg barS) = .bar := by unfold useOf; exact if_pos rfl
theorem useOf_send (x : X) : useOf (.dma (sendS x)) = .send x := by revert x; decide +kernel
theorem useOf_recv (x : X) : useOf (.dma (recvS x)) = .recv x := by revert x; decide +kernel

/-- What transfer `x` credits: its piece's bytes in the signature's unit. -/
def amt (x : X) : ℕ := sig.dmaCredit .tc (Kind.tc.table .vmem) (cc0_scratch0 : Ref sig .tc).idx ⟨2, ![len x, 4096]⟩ .fp8e4m3
theorem amt_pos (x : X) : 0 < amt x := sig.dmaCredit_pos _ _ _ _ _ (by revert x; decide +kernel)

/-! ## Contents -/

/-- The rows `R .. R + n` of a matrix. -/
def rows (a b R n : ℕ) : Finset (⟨2, ![a, b]⟩ : Shape).Idx :=
  Finset.univ.filter fun p => R ≤ (p 0).val ∧ (p 0).val < R + n

theorem mem_rows {a b R n : ℕ} {p : (⟨2, ![a, b]⟩ : Shape).Idx} :
    p ∈ rows a b R n ↔ R ≤ (p 0).val ∧ (p 0).val < R + n := by
  unfold rows; rw [Finset.mem_filter]; exact ⟨fun h => h.2, fun h => ⟨Finset.mem_univ _, h⟩⟩

/-- The staged blocks: `x`, `w` and the two scales. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def axstg (c : Dev nD) : (cc0_stg2_0 : Ref sig .tc).ty.Contents (Elt F) :=
  (win0_2.blk (0 : Fin 1)).view.read (Elt F) ((s₀ m ρ).mem ((c : Thread nD τ).loc main_arg2))
def awstg (c : Dev nD) : (cc0_stg3_0 : Ref sig .tc).ty.Contents (Elt F) :=
  (win0_3.blk (0 : Fin 1)).view.read (Elt F) ((s₀ m ρ).mem ((c : Thread nD τ).loc main_arg3))

/-- Row `R` of the gathered `x`: row `R % 512` of device `R / 512`'s block. -/
def rowAt (R : ℕ) (y : Fin 4096) : Elt F .fp8e4m3 :=
  xstg m ρ ⟨R / 512 % 8, Nat.mod_lt _ (by decide)⟩ (ix2 ⟨R % 512, Nat.mod_lt _ (by decide)⟩ y)

/-- The gathered `x`. -/
def gath : (cc0_scratch0 : Ref sig .tc).ty.Contents (Elt F) := fun p => rowAt m ρ (p 0).val (p 1)

/-- The first row of the piece transfer `x` brings to device `d`. -/
def R₀ (d : Dev nD) (x : X) : ℕ := 512 * (bx d (rk x)).val + off x

/-- Device `d`'s rows of its gather buffer that transfer `x` writes, at a share and contents. -/
def region (d : Dev nD) (x : X) (q : PosShare TreeShare) (f : (cc0_scratch0 : Ref sig .tc).ty.Contents (Elt F)) : sProp 𝕄 :=
  (d : Thread nD τ).loc cc0_scratch0 ↦[rows 4096 4096 (R₀ d x) (len x)]{q} f

/-- Device `c`'s rows of its own block that stream `x` carries, at a share. -/
def strip (c : Dev nD) (x : X) (q : PosShare TreeShare) : sProp 𝕄 :=
  (c : Thread nD τ).loc cc0_stg0_0 ↦[rows 512 4096 (off x) (len x)]{q} xstg m ρ c

/-- The share of its source that transfer `x` from `c` takes: of `c`'s own block for a first piece, of the landed rows of
    block `c ^ mk x` otherwise. -/
def source (c : Dev nD) (x : X) : sProp 𝕄 :=
  if x.val % 4 = 0 then strip m ρ c x (Transfers.shareTokN fullShare (tk x))
  else (c : Thread nD τ).loc cc0_scratch0 ↦[rows 4096 4096 (512 * (bx c (mk x)).val + off x) (len x)]{Transfers.shareTokN fullShare (tk x)} gath m ρ

/-- What a barrier signal hands `c` from its neighbour in direction `g`: the rows of the neighbour that `c` will write. -/
def barPay (c : Dev nD) (g : Fin 3) : sProp 𝕄 :=
  bigSep (used.filter (dn · = g)) fun x => iprop(∃ f, region (F := F) (bx c (dir g)) x fullShare f)
/-- What a landing hands `c`: the rows it brought, holding the block they are of. -/
def recvPay (c : Dev nD) (x : X) : sProp 𝕄 := region c x fullShare (gath m ρ)

instance region_storable (d : Dev nD) (x : X) (q) (f) : BI.Storable (upEmb : UEmb _ 𝕄) (region (F := F) d x q f) := by unfold region; infer_instance
instance source_storable (c : Dev nD) (x : X) : BI.Storable (upEmb : UEmb _ 𝕄) (source (F := F) m ρ c x) := by
  unfold source strip; split <;> infer_instance
instance barPay_storable (c : Dev nD) (g : Fin 3) : BI.Storable (upEmb : UEmb _ 𝕄) (barPay (F := F) c g) := by unfold barPay; infer_instance
instance recvPay_storable (c : Dev nD) (x : X) : BI.Storable (upEmb : UEmb _ 𝕄) (recvPay (F := F) m ρ c x) := by unfold recvPay; infer_instance

/-! ## The schedule -/

/-- One round: a barrier cell has one duty per direction, of one unit; a used send or receive cell one duty, of its piece's credit. -/
def Rd : Rounds.Schedule (GSem nD τ sig) (Fin 3) 𝕄 where
  duties g r := if r = 0 ∧ g.1.2 = .tc then
      match useOf g.2 with
      | .bar => Finset.univ
      | .send x => if x ∈ used then {0} else ∅
      | .recv x => if x ∈ used then {0} else ∅
      | .other => ∅
    else ∅
  unitless _ := False
  amount g _ _ := match useOf g.2 with
      | .bar => 1
      | .send x => amt x
      | .recv x => amt x
      | .other => 1
  payload g _ d := match useOf g.2 with
      | .bar => barPay g.1.1 d
      | .send x => source m ρ g.1.1 x
      | .recv x => recvPay m ρ g.1.1 x
      | .other => iprop(emp)
  amount_pos g _ _ _ := by
    show 0 < (match useOf g.2 with | .bar => 1 | .send x => amt x | .recv x => amt x | .other => 1)
    cases useOf g.2 with
    | bar => exact Nat.one_pos
    | send x => exact amt_pos x
    | recv x => exact amt_pos x
    | other => exact Nat.one_pos

instance Rd_payload_storable (g : GSem nD τ sig) (r : ℕ) (d : Fin 3) :
    BI.Storable (upEmb : UEmb _ 𝕄) ((Rd (F := F) m ρ).payload g r d) := by
  show BI.Storable upEmb (match useOf g.2 with
      | .bar => barPay g.1.1 d
      | .send x => source m ρ g.1.1 x
      | .recv x => recvPay m ρ g.1.1 x
      | .other => iprop(emp))
  cases useOf g.2 <;> infer_instance

section Sched
variable (c : Dev nD) (x : X)

theorem duties_bar : (Rd (F := F) m ρ).duties (barCell c) 0 = Finset.univ := by
  dsimp only [Rd]; rw [if_pos ⟨rfl, rfl⟩, useOf_bar]
theorem duties_send (hx : x ∈ used) : (Rd (F := F) m ρ).duties (sendCell c x) 0 = {0} := by
  dsimp only [Rd]; rw [if_pos ⟨rfl, rfl⟩, useOf_send]; exact if_pos hx
theorem duties_recv (hx : x ∈ used) : (Rd (F := F) m ρ).duties (recvCell c x) 0 = {0} := by
  dsimp only [Rd]; rw [if_pos ⟨rfl, rfl⟩, useOf_recv]; exact if_pos hx
theorem duties_send_not (hx : x ∉ used) (r : ℕ) : (Rd (F := F) m ρ).duties (sendCell c x) r = ∅ := by
  dsimp only [Rd]; rw [useOf_send]; split
  · exact if_neg hx
  · rfl
theorem duties_recv_not (hx : x ∉ used) (r : ℕ) : (Rd (F := F) m ρ).duties (recvCell c x) r = ∅ := by
  dsimp only [Rd]; rw [useOf_recv]; split
  · exact if_neg hx
  · rfl
theorem duties_later (g : GSem nD τ sig) : ∀ r, 1 ≤ r → (Rd (F := F) m ρ).duties g r = ∅ :=
  fun r hr => by dsimp only [Rd]; exact if_neg fun h => by omega

theorem amount_bar (d : Fin 3) : (Rd (F := F) m ρ).amount (barCell c) 0 d = 1 := by dsimp only [Rd]; rw [useOf_bar]
theorem amount_send (d : Fin 3) : (Rd (F := F) m ρ).amount (sendCell c x) 0 d = amt x := by dsimp only [Rd]; rw [useOf_send]
theorem amount_recv (d : Fin 3) : (Rd (F := F) m ρ).amount (recvCell c x) 0 d = amt x := by dsimp only [Rd]; rw [useOf_recv]

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (hx : x ∈ used) : (Rd (F := F) m ρ).expect (sendCell c x) 0 = amt x := by
  unfold Schedule.expect Schedule.amountOf; rw [duties_send m ρ c x hx, Finset.sum_singleton, amount_send]
theorem expect_recv (hx : x ∈ used) : (Rd (F := F) m ρ).expect (recvCell c x) 0 = amt x := by
  unfold Schedule.expect Schedule.amountOf; rw [duties_recv m ρ c x hx, Finset.sum_singleton, amount_recv]

theorem payload_bar (d : Fin 3) : (Rd (F := F) m ρ).payload (barCell c) 0 d = barPay c d := by dsimp only [Rd]; rw [useOf_bar]
theorem payload_send (d : Fin 3) : (Rd (F := F) m ρ).payload (sendCell c x) 0 d = source m ρ c x := by dsimp only [Rd]; rw [useOf_send]
theorem payload_recv (d : Fin 3) : (Rd (F := F) m ρ).payload (recvCell c x) 0 d = recvPay m ρ c x := by dsimp only [Rd]; rw [useOf_recv]

/-- All three barrier payloads. -/
theorem rest_bar : bigSep ((Rd (F := F) m ρ).duties (barCell c) 0 \ ∅) (fun d => (Rd (F := F) m ρ).payload (barCell c) 0 d)
    = bigSep Finset.univ fun g => barPay c g := by
  rw [Finset.sdiff_empty, duties_bar]; exact bigSep_congr fun d _ => payload_bar m ρ c d
theorem rest_send (hx : x ∈ used) : bigSep ((Rd (F := F) m ρ).duties (sendCell c x) 0 \ ∅) (fun d => (Rd (F := F) m ρ).payload (sendCell c x) 0 d) = source m ρ c x := by
  rw [Finset.sdiff_empty, duties_send m ρ c x hx, bigSep_singleton, payload_send]
theorem rest_recv (hx : x ∈ used) : bigSep ((Rd (F := F) m ρ).duties (recvCell c x) 0 \ ∅) (fun d => (Rd (F := F) m ρ).payload (recvCell c x) 0 d) = recvPay m ρ c x := by
  rw [Finset.sdiff_empty, duties_recv m ρ c x hx, bigSep_singleton, payload_recv]

end Sched

/-! ## What each core owes; the levels -/

/-- What device `c` owes when `i` transfers have been started: the credit of every later one to its target. -/
def Orest (c : Dev nD) (i : ℕ) : CellTallies nD τ sig Unit :=
  ∑ n ∈ Finset.Ico i 21, tallyAt (recvCell (bx c (tg (sendOrd n))) (sendOrd n)) () (amt (sendOrd n))

theorem Orest_succ (c : Dev nD) {i : ℕ} (h : i < 21) :
    Orest c i = Orest c (i + 1) + tallyAt (recvCell (bx c (tg (sendOrd i))) (sendOrd i)) () (amt (sendOrd i)) := by
  unfold Orest
  rw [show Finset.Ico i 21 = insert i (Finset.Ico (i + 1) 21) by ext x; simp only [Finset.mem_Ico, Finset.mem_insert]; omega,
    Finset.sum_insert (fun h => by rw [Finset.mem_Ico] at h; omega), add_comm]
theorem Orest_end (c : Dev nD) : Orest c 21 = 0 := by unfold Orest; rw [Finset.Ico_self, Finset.sum_empty]

/-- What device `c` owes at launch: all that and a unit to each neighbour's barrier, the first signal's last. -/
def O₂ (c : Dev nD) : CellTallies nD τ sig Unit := Orest c 0 + tallyAt (barCell (bx c (dir 2))) () 1
def O₁ (c : Dev nD) : CellTallies nD τ sig Unit := O₂ c + tallyAt (barCell (bx c (dir 1))) () 1
def O₀ (c : Dev nD) : CellTallies nD τ sig Unit := O₁ c + tallyAt (barCell (bx c (dir 0))) () 1

def L (g : GSem nD τ sig) : Finset Unit := if g.1.2 = .tc then {()} else ∅
/-- A transfer's level. -/
def cls (x : X) : ℕ := [2, 3, 3, 4].getD (x.val % 4) 0
def lv (g : GSem nD τ sig) (_ : Unit) : ℕ := match useOf g.2 with
  | .bar => 1
  | .recv x => cls x
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv]; rw [useOf_bar]
theorem lv_recv (c : Dev nD) (x : X) : lv (recvCell c x) () = cls x := by dsimp only [lv]; rw [useOf_recv]

/-- What is owed in `Orest c i` is owed to a receive cell of a later transfer. -/
theorem Orest_pos {c : Dev nD} {i : ℕ} {g : GSem nD τ sig} {u : Unit} (h : 0 < Orest c i g u) :
    ∃ n ∈ Finset.Ico i 21, g = recvCell (bx c (tg (sendOrd n))) (sendOrd n) := by
  unfold Orest at h
  rw [Finset.sum_apply, Finsupp.finset_sum_apply] at h
  obtain ⟨n, hn, h0⟩ := Finset.exists_ne_zero_of_sum_ne_zero h.ne'
  refine ⟨n, hn, ?_⟩
  rw [tallyAt_apply] at h0
  by_contra hne
  exact h0 (if_neg fun h' => hne h'.1)

theorem O₀_pos {c : Dev nD} {g : GSem nD τ sig} {u : Unit} (h : 0 < O₀ c g u) :
    (∃ n ∈ Finset.Ico 0 21, g = recvCell (bx c (tg (sendOrd n))) (sendOrd n)) ∨ ∃ d, g = barCell (bx c (dir d)) := by
  unfold O₀ O₁ O₂ at h
  rw [Pi.add_apply, Finsupp.add_apply, Pi.add_apply, Finsupp.add_apply, Pi.add_apply, Finsupp.add_apply,
    tallyAt_apply, tallyAt_apply, tallyAt_apply] at h
  by_cases h0 : 0 < Orest c 0 g u
  · exact .inl (Orest_pos h0)
  · by_contra hn
    rw [not_or] at hn
    rw [if_neg (fun h' => hn.2 ⟨2, h'.1⟩), if_neg (fun h' => hn.2 ⟨1, h'.1⟩), if_neg (fun h' => hn.2 ⟨0, h'.1⟩)] at h
    omega

theorem cls_pos (x : X) : 1 < cls x := by revert x; decide +kernel

/-- A staging cell lies at level 0, below everything a device ever owes. -/
theorem mayWait_stage (c : Dev nD) (q : DmaSem sig) (hq : useOf (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨n, -, rfl⟩ | ⟨d, rfl⟩ <;> exact Finset.mem_singleton_self _)
      (fun p hp => by rw [Finset.mem_singleton.mp hp]; dsimp only [lv]; rw [hq])
      (fun g u hg => by
        rcases O₀_pos hg with ⟨n, -, rfl⟩ | ⟨d, rfl⟩
        · rw [lv_recv]; exact Nat.lt_of_lt_of_le Nat.zero_lt_one (cls_pos _).le
        · rw [lv_bar]; exact Nat.one_pos)
  · rw [MayWait_zero]; iintro -; iempintro

/-- At its barrier wait a device owes receive cells only, which lie above its barrier cell. -/
theorem mayWait_bar (c : Dev nD) (i : ℕ) : (levAts L lv : sProp 𝕄) ⊢ MayWait (c : Thread nD τ) (.reg barS) () (Orest c i) :=
  MayOwe.of_cut (L := L) (lev := lv) 1 (fun p hp => by rw [Finset.mem_singleton.mp hp, L_tc]; exact Finset.mem_singleton_self _)
    (fun g u hg => by obtain ⟨n, -, rfl⟩ := Orest_pos hg; exact Finset.mem_singleton_self _)
    (fun p hp => by rw [Finset.mem_singleton.mp hp]; exact (lv_bar c).le)
    (fun g u hg => by obtain ⟨n, -, rfl⟩ := Orest_pos hg; rw [lv_recv]; exact cls_pos _)

/-- At the wait for landing `j`, what is still owed lies above it. -/
theorem mayWait_recv (c : Dev nD) (x : X) (i : ℕ) (h : ∀ n ∈ Finset.Ico i 21, cls x < cls (sendOrd n)) :
    (levAts L lv : sProp 𝕄) ⊢ MayWait (c : Thread nD τ) (.dma (recvS x)) () (Orest c i) :=
  MayOwe.of_cut (L := L) (lev := lv) (cls x) (fun p hp => by rw [Finset.mem_singleton.mp hp, L_tc]; exact Finset.mem_singleton_self _)
    (fun g u hg => by obtain ⟨n, -, rfl⟩ := Orest_pos hg; exact Finset.mem_singleton_self _)
    (fun p hp => by rw [Finset.mem_singleton.mp hp]; exact (lv_recv c x).le)
    (fun g u hg => by obtain ⟨n, hn, rfl⟩ := Orest_pos hg; rw [lv_recv]; exact h n hn)

theorem cls_lt : ∀ j ∈ Finset.range 21, ∀ n ∈ Finset.Ico (avail j) 21, cls (recvOrd j) < cls (sendOrd n) := by decide +kernel

end Cert.Gather

end
-- ==== Proof.Regions.lean ====
/-
# The rows of the buffers

The gather buffer of a device is cut into the rows of its own block, which no transfer touches, and the rows each of the
21 transfers into it writes; the staged block of `x` into the rows of the three streams. What a slice covers, what a
transfer writes and what a load reads are stated in rows.
-/
module

public import Idealize.SL.BI.BigOpNat
public import proofs.«01_k».proof.Proof.Protocol

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Two assertions that entail each other are one. -/
theorem sProp_eq {P Q : sProp 𝕄} (h₁ : P ⊢ Q) (h₂ : Q ⊢ P) : P = Q := BI.Entails.antisymm h₁ h₂

theorem bigSep_or {I : Type} [DecidableEq I] {s t : Finset I} (h : Disjoint s t) (Φ : I → sProp 𝕄) :
    bigSep (s ∪ t) Φ = iprop(bigSep s Φ ∗ bigSep t Φ) := bigSep_union h

/-! ## Rows -/

theorem rows_disjoint {a b R n R' n' : ℕ} (h : R + n ≤ R' ∨ R' + n' ≤ R) : Disjoint (rows a b R n) (rows a b R' n') := by
  rw [Finset.disjoint_left]
  intro p hp hp'
  rw [mem_rows] at hp hp'
  omega

section Sets
variable {n R : ℕ} {off : Fin 2 → ℕ}

/-- A slice of whole rows covers them. -/
theorem mem_unit_rows (hoff : off = ![R, 0]) {a l : ℕ} {inb : ∀ i, off i + (![n, l] : Fin 2 → ℕ) i ≤ (⟨2, ![a, l]⟩ : Shape).size i} :
    (Rect.unit (s := ⟨2, ![a, l]⟩) off ![n, l] inb).set = rows a l R n := by
  subst hoff
  ext p
  rw [Rect.mem_set_unit, mem_rows]
  refine ⟨fun h => h 0, fun h i => ?_⟩
  match i with
  | ⟨0, _⟩ => exact h
  | ⟨1, _⟩ => exact ⟨Nat.zero_le _, by have : (p 1).val < l := (p 1).isLt; show (p 1).val < 0 + l; omega⟩

theorem set_g (hoff : off = ![R, 0]) {inb} : (gM.slice (Rect.unit (s := S4096x4096) off ![n, 4096] inb) (fun _ => rfl)).view.set = rows 4096 4096 R n :=
  (View.set_slice_whole cc0_scratch0 (Rect.unit (s := S4096x4096) off ![n, 4096] inb)).trans (mem_unit_rows hoff)
theorem set_x (hoff : off = ![R, 0]) {inb} : (xM.slice (Rect.unit (s := S512x4096) off ![n, 4096] inb) (fun _ => rfl)).view.set = rows 512 4096 R n :=
  (View.set_slice_whole cc0_stg0_0 (Rect.unit (s := S512x4096) off ![n, 4096] inb)).trans (mem_unit_rows hoff)

end Sets

/-! ## The gathered rows -/

theorem rowAt_block (d : Dev nD) (a : ℕ) (ha : a < 512) (y : Fin 4096) : rowAt m ρ (512 * d.val + a) y = xstg m ρ d (ix2 ⟨a, ha⟩ y) := by
  have h1 : (⟨(512 * d.val + a) / 512 % 8, Nat.mod_lt _ (by decide)⟩ : Dev nD) = d :=
    Fin.ext (by have : d.val < 8 := d.isLt; show (512 * d.val + a) / 512 % 8 = d.val; omega)
  have h2 : (⟨(512 * d.val + a) % 512, Nat.mod_lt _ (by decide)⟩ : Fin 512) = ⟨a, ha⟩ :=
    Fin.ext (by show (512 * d.val + a) % 512 = a; omega)
  unfold rowAt
  rw [h1, h2]

/-- Rows sent from the staged block land as the gathered rows of that block. -/
theorem landed_own (c : Dev nD) {n o R : ℕ} {os od : Fin 2 → ℕ} (hos : os = ![o, 0]) (hod : od = ![R, 0]) (hR : R = 512 * c.val + o) (hn : o + n ≤ 512)
    {inbs inbd} (fd : (cc0_scratch0 : Ref sig .tc).ty.Contents (Elt F)) (p : S4096x4096.Idx) (hp : p ∈ rows 4096 4096 R n) :
    (gM.slice (Rect.unit (s := S4096x4096) od ![n, 4096] inbd) (fun _ => rfl)).view.write (Elt F) fd
      ((xM.slice (Rect.unit (s := S512x4096) os ![n, 4096] inbs) (fun _ => rfl)).view.read (Elt F) (xstg m ρ c)) Finset.univ p = gath m ρ p := by
  rw [← set_g (n := n) (inb := inbd) hod] at hp
  obtain ⟨y, -, rfl⟩ := Finset.mem_map.mp hp
  rw [View.write_emb_of_mem _ _ (Finset.mem_univ y)]
  subst hos hod hR
  have hy : o + (y 0).val < 512 := Nat.lt_of_lt_of_le (Nat.add_lt_add_left (y 0).isLt o) hn
  have e : (512 * c.val + o) + 1 * (y 0).val = 512 * c.val + (o + (y 0).val) := by omega
  have e1 : (⟨0 + 1 * (y 1).val, by have : (y 1).val < 4096 := (y 1).isLt; omega⟩ : Fin 4096) = y 1 := Fin.ext (by show 0 + 1 * (y 1).val = (y 1).val; omega)
  refine Eq.trans ?_ ((rowAt_block m ρ c (o + (y 0).val) hy (y 1)).symm.trans ?_)
  · refine congrArg (xstg m ρ c) (funext fun i => ?_)
    match i with
    | ⟨0, _⟩ => exact Fin.ext (by show o + 1 * (y 0).val = o + (y 0).val; omega)
    | ⟨1, _⟩ => exact e1
  · show rowAt m ρ _ _ = rowAt m ρ ((512 * c.val + o) + 1 * (y 0).val) ⟨0 + 1 * (y 1).val, _⟩
    rw [e, e1]

/-- Rows sent on from the gather buffer land as what they were. -/
theorem landed_on {n R : ℕ} {os od : Fin 2 → ℕ} (hos : os = ![R, 0]) (hod : od = ![R, 0])
    {inbs inbd} (fd : (cc0_scratch0 : Ref sig .tc).ty.Contents (Elt F)) (p : S4096x4096.Idx) (hp : p ∈ rows 4096 4096 R n) :
    (gM.slice (Rect.unit (s := S4096x4096) od ![n, 4096] inbd) (fun _ => rfl)).view.write (Elt F) fd
      ((gM.slice (Rect.unit (s := S4096x4096) os ![n, 4096] inbs) (fun _ => rfl)).view.read (Elt F) (gath m ρ)) Finset.univ p = gath m ρ p := by
  rw [← set_g (n := n) (inb := inbd) hod] at hp
  obtain ⟨y, -, rfl⟩ := Finset.mem_map.mp hp
  rw [View.write_emb_of_mem _ _ (Finset.mem_univ y)]
  subst hos hod
  rfl

/-- `n` rows of the gathered `x` from row `R` on. -/
def slab (R n : ℕ) : (⟨2, ![n, 4096]⟩ : Shape).Idx → Elt F .fp8e4m3 := fun y => rowAt m ρ (R + (y 0).val) (y 1)

theorem read_slab {n R : ℕ} {off : Fin 2 → ℕ} (hoff : off = ![R, 0]) {inb} :
    gM.view.readAt (Elt F) (Rect.unit (s := S4096x4096) off ![n, 4096] inb).toLoadRect (gath m ρ) = slab m ρ R n := by
  subst hoff
  funext y
  show rowAt m ρ (R + 1 * (y 0).val) ⟨0 + 1 * (y 1).val, _⟩ = rowAt m ρ (R + (y 0).val) (y 1)
  have e : R + 1 * (y 0).val = R + (y 0).val := by omega
  have e1 : (⟨0 + 1 * (y 1).val, by have : (y 1).val < 4096 := (y 1).isLt; omega⟩ : Fin 4096) = y 1 := Fin.ext (by show 0 + 1 * (y 1).val = (y 1).val; omega)
  rw [e, e1]

/-! ## The gather buffer in pieces -/

theorem region_apart : ∀ d : Dev nD, ∀ x ∈ used, ∀ x' ∈ used, x ≠ x' → R₀ d x + len x ≤ R₀ d x' ∨ R₀ d x' + len x' ≤ R₀ d x := by decide +kernel
theorem region_foreign : ∀ d : Dev nD, ∀ x ∈ used, R₀ d x + len x ≤ 512 * d.val ∨ 512 * d.val + 512 ≤ R₀ d x := by decide +kernel
theorem region_of : ∀ d b : Dev nD, b ≠ d → ∀ s : Fin 3, ∃ x ∈ used, x.val / 12 = s.val ∧ bx d (rk x) = b := by decide +kernel
theorem strip_of : ∀ x : X, ∀ s : Fin 3, x.val / 12 = s.val → off x = [0, 160, 320].getD s.val 0 ∧ len x = [160, 160, 192].getD s.val 0 := by decide +kernel
theorem off_len (x : X) : off x + len x ≤ 512 := by revert x; decide +kernel

/-- The rows of `d`'s own block. -/
def ownRows (d : Dev nD) : Finset S4096x4096.Idx := rows 4096 4096 (512 * d.val) 512
/-- The rows transfer `x` writes on `d`. -/
def regRows (d : Dev nD) (x : X) : Finset S4096x4096.Idx := rows 4096 4096 (R₀ d x) (len x)

theorem regRows_disjoint (d : Dev nD) : ∀ x ∈ used, ∀ x' ∈ used, x ≠ x' → Disjoint (regRows d x) (regRows d x') :=
  fun x hx x' hx' hne => rows_disjoint (region_apart d x hx x' hx' hne)
theorem ownRows_disjoint (d : Dev nD) : Disjoint (ownRows d) (used.biUnion (regRows d)) := by
  rw [Finset.disjoint_biUnion_right]
  exact fun x hx => rows_disjoint (by rcases region_foreign d x hx with h | h; exacts [.inr h, .inl h])

/-- A row of another block lies in one of the pieces. -/
theorem exists_region (d : Dev nD) (R : ℕ) (hR : R < 4096) (hne : R / 512 ≠ d.val) : ∃ x ∈ used, R₀ d x ≤ R ∧ R < R₀ d x + len x := by
  have hb : R / 512 < 8 := by omega
  have key : ∀ s : Fin 3, [0, 160, 320].getD s.val 0 ≤ R % 512 → R % 512 < [0, 160, 320].getD s.val 0 + [160, 160, 192].getD s.val 0 →
      ∃ x ∈ used, R₀ d x ≤ R ∧ R < R₀ d x + len x := fun s h1 h2 => by
    obtain ⟨x, hx, hs, e⟩ := region_of d ⟨R / 512, hb⟩ (fun h => hne (congrArg Fin.val h)) s
    obtain ⟨e1, e2⟩ := strip_of x s hs
    refine ⟨x, hx, ?_⟩
    unfold R₀
    rw [e, e1, e2]
    show 512 * (R / 512) + _ ≤ R ∧ R < 512 * (R / 512) + _ + _
    omega
  have hlt : R % 512 < 512 := Nat.mod_lt _ (by decide)
  by_cases h1 : R % 512 < 160
  · exact key 0 (Nat.zero_le _) h1
  · by_cases h2 : R % 512 < 320
    · exact key 1 (Nat.le_of_not_lt h1) h2
    · exact key 2 (Nat.le_of_not_lt h2) hlt

theorem rows_cover (d : Dev nD) : ownRows d ∪ used.biUnion (regRows d) = Finset.univ := by
  refine Finset.eq_univ_of_forall fun p => ?_
  have hp : (p 0).val < 4096 := (p 0).isLt
  rw [Finset.mem_union]
  by_cases h : (p 0).val / 512 = d.val
  · exact .inl (mem_rows.mpr (by omega))
  · obtain ⟨x, hx, h'⟩ := exists_region d _ hp h
    exact .inr (Finset.mem_biUnion.mpr ⟨x, hx, mem_rows.mpr h'⟩)

/-- The gather buffer, whole: `d`'s own block's rows and every piece. -/
theorem gather_split (d : Dev nD) (f : (cc0_scratch0 : Ref sig .tc).ty.Contents (Elt F)) :
    ((d : Thread nD τ).loc cc0_scratch0 ↦{fullShare} f : sProp 𝕄)
      = iprop(((d : Thread nD τ).loc cc0_scratch0 ↦[ownRows d]{fullShare} f) ∗ bigSep used fun x => region d x fullShare f) := by
  have hb := pointsTo_biUnion (Ix := Unit) (Name := ℕ) (U := UU) (Lvl := ℕ) (ℓ := (d : Thread nD τ).loc cc0_scratch0) (q := fullShare) (f := f) used (regRows d) (regRows_disjoint d)
  have hu := pointsTo_union (Ix := Unit) (Name := ℕ) (U := UU) (Lvl := ℕ) (ℓ := (d : Thread nD τ).loc cc0_scratch0) (q := fullShare) (f := f) (ownRows_disjoint d)
  rw [rows_cover] at hu
  exact (BI.Entails.antisymm hu.1 hu.2).trans (by rw [hb]; rfl)

/-- The pieces landed and the own rows, whatever they hold, are the gather buffer again. -/
theorem gather_join (d : Dev nD) (f : (cc0_scratch0 : Ref sig .tc).ty.Contents (Elt F)) :
    iprop(((d : Thread nD τ).loc cc0_scratch0 ↦[ownRows d]{fullShare} f) ∗ bigSep used fun x => recvPay m ρ d x)
      ⊢ (iprop(∃ g, (d : Thread nD τ).loc cc0_scratch0 ↦{fullShare} g) : sProp 𝕄) := by
  have hb := pointsTo_biUnion (Ix := Unit) (Name := ℕ) (U := UU) (Lvl := ℕ) (ℓ := (d : Thread nD τ).loc cc0_scratch0) (q := fullShare) (f := gath m ρ) used (regRows d) (regRows_disjoint d)
  have hu := pointsTo_join (Ix := Unit) (Name := ℕ) (U := UU) (Lvl := ℕ) (ℓ := (d : Thread nD τ).loc cc0_scratch0) (q := fullShare) (f := f) (g := gath m ρ) (ownRows_disjoint d)
  rw [rows_cover, hb] at hu
  iintro H
  iexists _
  iapply hu
  iexact H

/-! ## A landed piece and the transfers that pass it on -/

theorem bigSep_Ico_add (a n : ℕ) (Φ : ℕ → sProp 𝕄) : bigSep (Finset.Ico a (a + n)) Φ = bigSep (Finset.range n) fun i => Φ (a + i) := by
  induction n with
  | zero => rw [Nat.add_zero, Finset.Ico_self, Finset.range_zero, bigSep_empty, bigSep_empty]
  | succ n ih => rw [← Nat.add_assoc, bigSep_Ico_succ_top (Nat.le_add_right _ _), bigSep_range_succ, ih]

/-- What stays of landing `j` when the transfers that pass it on have taken their shares. -/
def rest (c : Dev nD) (j : ℕ) : sProp 𝕄 := region c (recvOrd j) (Transfers.shareDrop fullShare (avail (j + 1) - avail j)) (gath m ρ)

theorem avail_mono : ∀ j ∈ Finset.range 21, avail j ≤ avail (j + 1) ∧ 9 ≤ avail j ∧ avail (j + 1) ≤ 21 := by decide +kernel
theorem forward_facts : ∀ j ∈ Finset.range 21, ∀ n ∈ Finset.Ico (avail j) (avail (j + 1)), (sendOrd n).val % 4 ≠ 0 ∧ tk (sendOrd n) = n - avail j
    ∧ off (sendOrd n) = off (recvOrd j) ∧ len (sendOrd n) = len (recvOrd j) ∧ mk (sendOrd n) = rk (recvOrd j) := by decide +kernel

theorem source_forward (c : Dev nD) {j n : ℕ} (hj : j < 21) (hn : n ∈ Finset.Ico (avail j) (avail (j + 1))) :
    source m ρ c (sendOrd n) = region c (recvOrd j) (Transfers.shareTokN fullShare (n - avail j)) (gath m ρ) := by
  obtain ⟨h1, h2, h3, h4, h5⟩ := forward_facts j (Finset.mem_range.mpr hj) n hn
  unfold source region R₀
  rw [if_neg h1, h2, h3, h4, h5]

theorem landing (c : Dev nD) {j : ℕ} (hj : j < 21) :
    recvPay m ρ c (recvOrd j) = iprop(rest m ρ c j ∗ bigSep (Finset.Ico (avail j) (avail (j + 1))) fun n => source m ρ c (sendOrd n)) := by
  obtain ⟨hle, -, -⟩ := avail_mono j (Finset.mem_range.mpr hj)
  have ht := Transfers.pointsTo_toks_range (Ix := Unit) (Name := ℕ) (U := UU) (Lvl := ℕ) (ℓ := (c : Thread nD τ).loc cc0_scratch0) (S := rows 4096 4096 (R₀ c (recvOrd j)) (len (recvOrd j)))
    (f := gath m ρ) fullShare (avail (j + 1) - avail j)
  refine (BI.Entails.antisymm ht.1 ht.2).trans ?_
  rw [bigSep_congr fun n hn => source_forward m ρ c hj hn]
  have hI : Finset.Ico (avail j) (avail (j + 1)) = Finset.Ico (avail j) (avail j + (avail (j + 1) - avail j)) := by rw [Nat.add_sub_cancel' hle]
  rw [hI, bigSep_Ico_add]
  refine congrArg _ (bigSep_congr fun i _ => ?_)
  rw [Nat.add_sub_cancel_left]
  rfl

/-! ## The staged block and the nine transfers of it -/

theorem strip_split (c : Dev nD) (q : PosShare TreeShare) :
    ((c : Thread nD τ).loc cc0_stg0_0 ↦{q} xstg m ρ c : sProp 𝕄)
      = iprop(strip m ρ c 0 q ∗ strip m ρ c 12 q ∗ strip m ρ c 24 q) := by
  have hd1 : Disjoint (rows 512 4096 160 160) (rows 512 4096 320 192) := rows_disjoint (.inl le_rfl)
  have hd2 : Disjoint (rows 512 4096 0 160) (rows 512 4096 160 160 ∪ rows 512 4096 320 192) := by
    rw [Finset.disjoint_union_right]; exact ⟨rows_disjoint (.inl le_rfl), rows_disjoint (.inl (by decide))⟩
  have hu : rows 512 4096 0 160 ∪ (rows 512 4096 160 160 ∪ rows 512 4096 320 192) = Finset.univ := by
    refine Finset.eq_univ_of_forall fun p => ?_
    have hp : (p 0).val < 512 := (p 0).isLt
    rw [Finset.mem_union, Finset.mem_union, mem_rows, mem_rows, mem_rows]
    omega
  have h1 := pointsTo_union (Ix := Unit) (Name := ℕ) (U := UU) (Lvl := ℕ) (ℓ := (c : Thread nD τ).loc cc0_stg0_0) (q := q) (f := xstg m ρ c) hd1
  have h2 := pointsTo_union (Ix := Unit) (Name := ℕ) (U := UU) (Lvl := ℕ) (ℓ := (c : Thread nD τ).loc cc0_stg0_0) (q := q) (f := xstg m ρ c) hd2
  rw [hu] at h2
  exact (BI.Entails.antisymm h2.1 h2.2).trans (congrArg _ (BI.Entails.antisymm h1.1 h1.2))

theorem own_facts : ∀ s ∈ Finset.range 3, ∀ r ∈ Finset.range 3, (sendOrd (3 * s + r)).val % 4 = 0 ∧ tk (sendOrd (3 * s + r)) = r
    ∧ (sendOrd (3 * s + r)).val / 12 = s ∧ mk (sendOrd (3 * s + r)) = 0 := by decide +kernel

theorem strip_first : ∀ s ∈ Finset.range 3, ([0, 12, 24].getD s (0 : X)).val / 12 = s := by decide

theorem source_own (c : Dev nD) {s r : ℕ} (hs : s < 3) (hr : r < 3) :
    source m ρ c (sendOrd (3 * s + r)) = strip m ρ c ([0, 12, 24].getD s 0) (Transfers.shareTokN fullShare r) := by
  obtain ⟨h1, h2, h3, -⟩ := own_facts s (Finset.mem_range.mpr hs) r (Finset.mem_range.mpr hr)
  unfold source
  rw [if_pos h1, h2]
  unfold strip
  obtain ⟨e1, e2⟩ := strip_of _ ⟨s, hs⟩ h3
  obtain ⟨e3, e4⟩ := strip_of ([0, 12, 24].getD s 0) ⟨s, hs⟩ (strip_first s (Finset.mem_range.mpr hs))
  rw [e1, e2, e3, e4]

/-- The staged block, whole: the share the loads use, and the nine sources. -/
theorem x_split (c : Dev nD) :
    ((c : Thread nD τ).loc cc0_stg0_0 ↦{fullShare} xstg m ρ c : sProp 𝕄)
      = iprop(((c : Thread nD τ).loc cc0_stg0_0 ↦{Transfers.shareDrop fullShare 3} xstg m ρ c)
          ∗ bigSep (Finset.Ico 0 9) fun n => source m ρ c (sendOrd n)) := by
  have ht := Transfers.pointsTo_toks_range (Ix := Unit) (Name := ℕ) (U := UU) (Lvl := ℕ) (ℓ := (c : Thread nD τ).loc cc0_stg0_0) (S := Finset.univ) (f := xstg m ρ c) fullShare 3
  refine (BI.Entails.antisymm ht.1 ht.2).trans (congrArg _ ?_)
  have hI : (Finset.Ico 0 9 : Finset ℕ) = ((Finset.range 3).product (Finset.range 3)).image fun p => 3 * p.2 + p.1 := by decide +kernel
  have e : ∀ q, ((c : Thread nD τ).loc cc0_stg0_0 ↦[Finset.univ]{q} xstg m ρ c : sProp 𝕄) = bigSep (Finset.range 3) fun s => strip m ρ c ([0, 12, 24].getD s 0) q := fun q => by
    refine (strip_split m ρ c q).trans ?_
    simp only [bigSep_range_succ, Finset.range_zero, bigSep_empty]
    refine sProp_eq ?_ ?_
    · iintro ⟨H0, H1, H2⟩
      isplitl [H2]; · iexact H2
      isplitl [H1]; · iexact H1
      isplitl [H0]; · iexact H0
      iempintro
    · iintro ⟨H2, H1, H0, -⟩
      isplitl [H0]; · iexact H0
      isplitl [H1]; · iexact H1
      iexact H2
  have hsrc : ∀ Φ : ℕ → sProp 𝕄, bigSep (Finset.Ico 0 9) Φ = bigSep (Finset.range 3) fun r => bigSep (Finset.range 3) fun s => Φ (3 * s + r) := fun Φ => by
    simp only [Nat.Ico_zero_eq_range, bigSep_range_succ, Finset.range_zero, bigSep_empty]
    refine sProp_eq ?_ ?_
    · iintro ⟨H8, H7, H6, H5, H4, H3, H2, H1, H0, -⟩
      isplitl [H8 H5 H2]
      · isplitl [H8]; · iexact H8
        isplitl [H5]; · iexact H5
        isplitl [H2]; · iexact H2
        iempintro
      isplitl [H7 H4 H1]
      · isplitl [H7]; · iexact H7
        isplitl [H4]; · iexact H4
        isplitl [H1]; · iexact H1
        iempintro
      isplitl [H6 H3 H0]
      · isplitl [H6]; · iexact H6
        isplitl [H3]; · iexact H3
        isplitl [H0]; · iexact H0
        iempintro
      iempintro
    · iintro ⟨⟨H8, H5, H2, -⟩, ⟨H7, H4, H1, -⟩, ⟨H6, H3, H0, -⟩, -⟩
      isplitl [H8]; · iexact H8
      isplitl [H7]; · iexact H7
      isplitl [H6]; · iexact H6
      isplitl [H5]; · iexact H5
      isplitl [H4]; · iexact H4
      isplitl [H3]; · iexact H3
      isplitl [H2]; · iexact H2
      isplitl [H1]; · iexact H1
      isplitl [H0]; · iexact H0
      iempintro
  rw [hsrc]
  refine bigSep_congr fun r hr => (e _).trans (bigSep_congr fun s hs => ?_)
  exact (source_own m ρ c (Finset.mem_range.mp hs) (Finset.mem_range.mp hr)).symm

/-! ## A run over the used transfers, in each of the three orders -/

theorem bigSep_sendOrd (Φ : X → sProp 𝕄) : bigSep used Φ = bigSep (Finset.range 21) fun n => Φ (sendOrd n) := by
  rw [← sendOrd_image]; exact bigSep_image_of_injOn sendOrd_injOn Φ
theorem bigSep_recvOrd (Φ : X → sProp 𝕄) : bigSep used Φ = bigSep (Finset.range 21) fun n => Φ (recvOrd n) := by
  rw [← recvOrd_image]; exact bigSep_image_of_injOn recvOrd_injOn Φ
theorem bigSep_waitOrd (Φ : X → sProp 𝕄) : bigSep used Φ = bigSep (Finset.range 21) fun n => Φ (waitOrd n) := by
  rw [← waitOrd_image]; exact bigSep_image_of_injOn waitOrd_injOn Φ

/-- What stays of the first `j` landings and the sources passed on from them are the landings again. -/
theorem landings (c : Dev nD) : ∀ j, j ≤ 21 →
    bigSep (Finset.range j) (fun i => recvPay m ρ c (recvOrd i))
      = iprop(bigSep (Finset.range j) (fun i => rest m ρ c i) ∗ bigSep (Finset.Ico 9 (avail j)) fun n => source m ρ c (sendOrd n)) := by
  intro j
  induction j with
  | zero =>
    intro _
    rw [Finset.range_zero, bigSep_empty, bigSep_empty, show avail 0 = 9 from rfl, Finset.Ico_self, bigSep_empty]
    exact BI.Entails.antisymm (sep_emp (PROP := sProp 𝕄)).2 (sep_emp (PROP := sProp 𝕄)).1
  | succ j ih =>
    intro hj
    obtain ⟨h1, h2, h3⟩ := avail_mono j (Finset.mem_range.mpr hj)
    have hu : Finset.Ico 9 (avail (j + 1)) = Finset.Ico 9 (avail j) ∪ Finset.Ico (avail j) (avail (j + 1)) := (Finset.Ico_union_Ico_eq_Ico h2 h1).symm
    rw [bigSep_range_succ, bigSep_range_succ, ih (Nat.le_of_succ_le hj), landing m ρ c hj, hu,
      bigSep_or (Finset.Ico_disjoint_Ico_consecutive _ _ _)]
    refine sProp_eq ?_ ?_
    · iintro ⟨⟨H1, H2⟩, H3, H4⟩
      isplitl [H1 H3]
      · isplitl [H1]; · iexact H1
        iexact H3
      isplitl [H4]; · iexact H4
      iexact H2
    · iintro ⟨⟨H1, H3⟩, H4, H2⟩
      isplitl [H1 H2]
      · isplitl [H1]; · iexact H1
        iexact H2
      isplitl [H3]; · iexact H3
      iexact H4

end Cert.Gather

end
-- ==== Proof.Steps.lean ====
/-
# The steps of the body

The state a device is in between two operations of its body, indexed by how far it has come: `i` transfers started, `j`
landings taken, `t` tiles stored. One lemma per kind of operation says how it moves the state.
-/
module

public import proofs.«01_k».proof.Proof.Regions

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a piece of device `c`'s body. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells, numbered -/

/-- A device's semaphores under the schedule: the barrier's, the send cells, the receive cells. -/
def csem (k : Fin 73) : SemLoc sig := if h : k.val = 0 then .reg barS else .dma ⟨4 + k.val, by have := k.isLt; show 4 + k.val < 77; omega⟩
def kcell (ck : Dev nD × Fin 73) : GSem nD τ sig := ((ck.1 : Thread nD τ), csem ck.2)
def kS (x : X) : Fin 73 := ⟨1 + x.val, by omega⟩
def kR (x : X) : Fin 73 := ⟨37 + x.val, by omega⟩

theorem kcell_bar (c : Dev nD) : kcell (c, 0) = barCell c := rfl
theorem csem_send (x : X) : csem (kS x) = .dma (sendS x) := by revert x; decide +kernel
theorem csem_recv (x : X) : csem (kR x) = .dma (recvS x) := by revert x; decide +kernel
theorem kcell_send (c : Dev nD) (x : X) : kcell (c, kS x) = sendCell c x := congrArg (Prod.mk _) (csem_send x)
theorem kcell_recv (c : Dev nD) (x : X) : kcell (c, kR x) = recvCell c x := congrArg (Prod.mk _) (csem_recv x)

/-- Every cell's invariant, under the names `K`, and that it has reached round 0. -/
def records (K : Dev nD × Fin 73 → ℕ) : sProp 𝕄 :=
  iprop((bigSep Finset.univ fun ck : Dev nD × Fin 73 => cellInv ER (Rd m ρ) (K ck) (kcell ck))
    ∗ bigSep Finset.univ fun ck : Dev nD × Fin 73 => reached ER (kcell ck) 0)

instance records_persistent (K : Dev nD × Fin 73 → ℕ) : BI.Persistent (records (F := F) m ρ K) := by unfold records; infer_instance

theorem inv_at (K : Dev nD × Fin 73 → ℕ) (ck : Dev nD × Fin 73) :
    (bigSep Finset.univ fun ck : Dev nD × Fin 73 => (cellInv ER (Rd (F := F) m ρ) (K ck) (kcell ck) : sProp 𝕄)) ⊢ cellInv ER (Rd m ρ) (K ck) (kcell ck) :=
  bigSep_elim (Finset.mem_univ ck)
theorem reached_at (ck : Dev nD × Fin 73) :
    (bigSep Finset.univ fun ck : Dev nD × Fin 73 => (reached ER (kcell ck) 0 : sProp 𝕄)) ⊢ reached ER (kcell ck) 0 :=
  bigSep_elim (Finset.mem_univ ck)

theorem records_at (K : Dev nD × Fin 73 → ℕ) (ck : Dev nD × Fin 73) :
    records m ρ K ⊢ iprop(cellInv ER (Rd (F := F) m ρ) (K ck) (kcell ck) ∗ reached ER (kcell ck) 0) := by
  unfold records
  iintro ⟨#HI, #HR⟩
  isplitr
  · iapply (inv_at m ρ K ck); iexact HI
  · iapply (reached_at (F := F) ck); iexact HR
theorem records_bar (K : Dev nD × Fin 73 → ℕ) (c : Dev nD) :
    records m ρ K ⊢ iprop(cellInv ER (Rd (F := F) m ρ) (K (c, 0)) (barCell c) ∗ reached ER (barCell c) 0) := records_at m ρ K (c, 0)
theorem records_send (K : Dev nD × Fin 73 → ℕ) (c : Dev nD) (x : X) :
    records m ρ K ⊢ iprop(cellInv ER (Rd (F := F) m ρ) (K (c, kS x)) (sendCell c x) ∗ reached ER (sendCell c x) 0) := by
  rw [← kcell_send]; exact records_at m ρ K (c, kS x)
theorem records_recv (K : Dev nD × Fin 73 → ℕ) (c : Dev nD) (x : X) :
    records m ρ K ⊢ iprop(cellInv ER (Rd (F := F) m ρ) (K (c, kR x)) (recvCell c x) ∗ reached ER (recvCell c x) 0) := by
  rw [← kcell_recv]; exact records_at m ρ K (c, kR x)

/-! ## The result, by tiles -/

def axv (c : Dev nD) : Elt F .f32 := axstg m ρ c (Shape.Idx.first (s := S1) (by decide))
def awv (c : Dev nD) : Elt F .f32 := awstg m ρ c (Shape.Idx.first (s := S1) (by decide))

/-- The tile of `c`'s own block, and the tiles of 160 and of 192 rows of the gathered `x`. -/
def tOwn (c : Dev nD) : FVec F S512x256 .f32 := k0_pay2 (k0_pay1 (xstg m ρ c) (wstg m ρ c)) (axv m ρ c) (awv m ρ c)
def t160 (c : Dev nD) (R : ℕ) : FVec F S160x256 .f32 := k0_pay3 (slab m ρ R 160) (wstg m ρ c) (axv m ρ c) (awv m ρ c)
def t192 (c : Dev nD) (R : ℕ) : FVec F S192x256 .f32 := k0_pay10 (slab m ρ R 192) (wstg m ρ c) (axv m ρ c) (awv m ρ c)

/-- Device `c`'s result: its own block's rows from one tile of 512 rows, another block's from tiles of 160, 160 and 192. -/
def outF (c : Dev nD) (p : S4096x256.Idx) : Elt F .f32 :=
  if (p 0).val / 512 = c.val then tOwn m ρ c (ix2 ⟨(p 0).val % 512, Nat.mod_lt _ (by decide)⟩ (p 1))
  else if h : (p 0).val % 512 < 160 then t160 m ρ c (512 * ((p 0).val / 512)) (ix2 ⟨(p 0).val % 512, h⟩ (p 1))
  else if h' : (p 0).val % 512 < 320 then t160 m ρ c (512 * ((p 0).val / 512) + 160) (ix2 ⟨(p 0).val % 512 - 160, by omega⟩ (p 1))
  else t192 m ρ c (512 * ((p 0).val / 512) + 320) (ix2 ⟨(p 0).val % 512 - 320, by have := Nat.mod_lt (p 0).val (show 0 < 512 by decide); omega⟩ (p 1))

/-- `w` is the part of the result that starts at row `R`. -/
def TileAt (c : Dev nD) (R : ℕ) {n : ℕ} (w : (⟨2, ![n, 256]⟩ : Shape).Idx → Elt F .f32) : Prop :=
  ∀ (y : (⟨2, ![n, 256]⟩ : Shape).Idx) (p : S4096x256.Idx), (p 0).val = R + (y 0).val → p 1 = y 1 → w y = outF m ρ c p

theorem tile_own (c : Dev nD) : TileAt m ρ c (512 * c.val) (tOwn m ρ c) := fun y p h0 h1 => by
  have hy : (y 0).val < 512 := (y 0).isLt
  unfold outF
  rw [if_pos (by omega), h1]
  refine congrArg _ (funext fun i => ?_)
  match i with
  | ⟨0, _⟩ => exact Fin.ext (by show (y 0).val = (p 0).val % 512; omega)
  | ⟨1, _⟩ => rfl

theorem tile160_facts : ∀ x ∈ used, len x = 160 → off x = 0 ∨ off x = 160 := by decide +kernel
theorem tile192_facts : ∀ x ∈ used, len x = 192 → off x = 320 := by decide +kernel

theorem tile_160 (c : Dev nD) (x : X) (hx : x ∈ used) (hl : len x = 160) : TileAt m ρ c (R₀ c x) (t160 m ρ c (R₀ c x)) := fun y p h0 h1 => by
  have hy : (y 0).val < 160 := (y 0).isLt
  have hf := region_foreign c x hx
  have ho := tile160_facts x hx hl
  unfold outF
  unfold R₀ at hf h0 ⊢
  rw [if_neg (by omega), h1]
  rcases ho with ho | ho
  · rw [dif_pos (by omega)]
    have e : 512 * (bx c (rk x)).val + off x = 512 * ((p 0).val / 512) := by omega
    rw [e]
    refine congrArg _ (funext fun i => ?_)
    match i with
    | ⟨0, _⟩ => exact Fin.ext (by show (y 0).val = (p 0).val % 512; omega)
    | ⟨1, _⟩ => rfl
  · rw [dif_neg (by omega), dif_pos (by omega)]
    have e : 512 * (bx c (rk x)).val + off x = 512 * ((p 0).val / 512) + 160 := by omega
    rw [e]
    refine congrArg _ (funext fun i => ?_)
    match i with
    | ⟨0, _⟩ => exact Fin.ext (by show (y 0).val = (p 0).val % 512 - 160; omega)
    | ⟨1, _⟩ => rfl

theorem tile_192 (c : Dev nD) (x : X) (hx : x ∈ used) (hl : len x = 192) : TileAt m ρ c (R₀ c x) (t192 m ρ c (R₀ c x)) := fun y p h0 h1 => by
  have hy : (y 0).val < 192 := (y 0).isLt
  have hf := region_foreign c x hx
  have ho := tile192_facts x hx hl
  unfold outF
  unfold R₀ at hf h0 ⊢
  rw [if_neg (by omega), h1, dif_neg (by omega), dif_neg (by omega)]
  have e : 512 * (bx c (rk x)).val + off x = 512 * ((p 0).val / 512) + 320 := by omega
  rw [e]
  refine congrArg _ (funext fun i => ?_)
  match i with
  | ⟨0, _⟩ => exact Fin.ext (by show (y 0).val = (p 0).val % 512 - 320; omega)
  | ⟨1, _⟩ => rfl

/-- The rows of the result stored once `t` tiles are: the own block's first, then the landings' in order. -/
def Stored (c : Dev nD) (t : ℕ) (p : S4096x256.Idx) : Prop :=
  (0 < t ∧ p ∈ rows 4096 256 (512 * c.val) 512) ∨ ∃ i, i + 1 < t ∧ p ∈ rows 4096 256 (R₀ c (recvOrd i)) (len (recvOrd i))

theorem stored_zero (c : Dev nD) (p : S4096x256.Idx) : ¬ Stored c 0 p := by
  rintro (⟨h, -⟩ | ⟨i, h, -⟩) <;> omega
theorem stored_one (c : Dev nD) (p : S4096x256.Idx) (h : Stored c 1 p) : p ∈ rows 4096 256 (512 * c.val) 512 := by
  rcases h with ⟨-, h⟩ | ⟨i, h, -⟩
  · exact h
  · omega
theorem stored_succ (c : Dev nD) (j : ℕ) (p : S4096x256.Idx) (h : Stored c (j + 2) p) :
    p ∈ rows 4096 256 (R₀ c (recvOrd j)) (len (recvOrd j)) ∨ Stored c (j + 1) p := by
  rcases h with ⟨-, h⟩ | ⟨i, h, h'⟩
  · exact .inr (.inl ⟨Nat.succ_pos _, h⟩)
  · by_cases e : i = j
    · subst e; exact .inl h'
    · exact .inr (.inr ⟨i, by omega, h'⟩)
theorem stored_all (c : Dev nD) (p : S4096x256.Idx) : Stored c 22 p := by
  have hp : (p 0).val < 4096 := (p 0).isLt
  by_cases h : (p 0).val / 512 = c.val
  · exact .inl ⟨by decide, mem_rows.mpr (by omega)⟩
  · obtain ⟨x, hx, h'⟩ := exists_region c _ hp h
    rw [← recvOrd_image] at hx
    obtain ⟨i, hi, rfl⟩ := Finset.mem_image.mp hx
    exact .inr ⟨i, by have := Finset.mem_range.mp hi; omega, mem_rows.mpr h'⟩

/-! ## The state -/

/-- What everyone knows: the cells' invariants and the levels. -/
def know (K : Dev nD × Fin 73 → ℕ) : sProp 𝕄 := iprop(records m ρ K ∗ levAts L lv)
instance know_persistent (K : Dev nD × Fin 73 → ℕ) : BI.Persistent (know (F := F) m ρ K) := by unfold know; infer_instance

/-- Transfer number `n` of `c` to come: the target's rows, and its two duties. -/
def pend (c : Dev nD) (n : ℕ) : sProp 𝕄 :=
  iprop((∃ f, region (F := F) (bx c (tg (sendOrd n))) (sendOrd n) fullShare f)
    ∗ dutyTok ER (sendCell c (sendOrd n)) 0 0 ∗ dutyTok ER (recvCell (bx c (tg (sendOrd n))) (sendOrd n)) 0 0)
/-- Landing number `n` to come. -/
def todo (c : Dev nD) (n : ℕ) : sProp 𝕄 :=
  iprop(atPos ER (recvCell c (recvOrd n)) 0 ∅ 0 ∗ cred (tallyAt (recvCell c (recvOrd n)) () (amt (recvOrd n))))
/-- Landing number `n` taken. -/
def done (c : Dev nD) (n : ℕ) : sProp 𝕄 :=
  iprop(atPos ER (recvCell c (recvOrd n)) 1 ∅ 0 ∗ rest m ρ c n)
/-- Transfer `x` started: the credit its completion brings. -/
def sent (c : Dev nD) (x : X) : sProp 𝕄 := cred (tallyAt (sendCell c x) () (amt x))

/-- The communication, `i` transfers started and `j` landings taken. -/
def com (c : Dev nD) (i j : ℕ) : sProp 𝕄 :=
  iprop((∃ W, owes (c : Thread nD τ) (Orest c i) W) ∗ bigSep (Finset.Ico i 21) (pend (F := F) c)
    ∗ bigSep (Finset.Ico i (avail j)) (fun n => source m ρ c (sendOrd n))
    ∗ bigSep (Finset.Ico j 21) (todo (F := F) c) ∗ bigSep (Finset.range j) (done m ρ c) ∗ bigSep (Finset.range i) (fun n => sent (F := F) c (sendOrd n)))

/-- The staging buffers, `t` tiles stored. -/
def mem (c : Dev nD) (t : ℕ) : sProp 𝕄 :=
  iprop(((c : Thread nD τ).loc cc0_stg0_0 ↦{Transfers.shareDrop fullShare 3} xstg m ρ c)
    ∗ ((c : Thread nD τ).loc cc0_stg1_0 ↦{fullShare} wstg m ρ c)
    ∗ ((c : Thread nD τ).loc cc0_stg2_0 ↦{fullShare} axstg m ρ c)
    ∗ ((c : Thread nD τ).loc cc0_stg3_0 ↦{fullShare} awstg m ρ c)
    ∗ ∃ f : (cc0_stg4_0 : Ref sig .tc).ty.Contents (Elt F), ⌜∀ p, Stored c t p → f p = outF m ρ c p⌝ ∗ ((c : Thread nD τ).loc cc0_stg4_0 ↦{fullShare} f))

/-- The state, with a frame `Fr`. -/
def St (K : Dev nD × Fin 73 → ℕ) (Fr : sProp 𝕄) (c : Dev nD) (i j t : ℕ) : sProp 𝕄 :=
  iprop(know m ρ K ∗ com m ρ c i j ∗ mem m ρ c t ∗ Fr)

section Steps

variable {m ρ}
variable {K : Dev nD × Fin 73 → ℕ} {Fr : sProp (MT nD τ sig Unit (Elt F) ℕ UU ℕ)} {c : Dev nD} {i j t : ℕ} {α : Type}
  {Q : α → sProp (MT nD τ sig Unit (Elt F) ℕ UU ℕ)}

theorem used_send : ∀ i ∈ Finset.range 21, sendOrd i ∈ used := by decide +kernel
theorem used_recv : ∀ i ∈ Finset.range 21, recvOrd i ∈ used := by decide +kernel
theorem used_wait : ∀ i ∈ Finset.range 21, waitOrd i ∈ used := by decide +kernel
theorem avail_le : ∀ j ∈ Finset.range 22, avail j ≤ 21 := by decide +kernel

/-- What a transfer is addressed to: its target's rows of the block it carries. -/
theorem R₀_target (c : Dev nD) (x : X) : R₀ (bx c (tg x)) x = 512 * (bx c (mk x)).val + off x := by unfold R₀; rw [bx_rk]

/-- Rows of the gather buffer, as a slice of it has them. -/
theorem slice_g (d : Dev nD) {l R : ℕ} {od : Fin 2 → ℕ} (hod : od = ![R, 0]) {inb hu} (q : PosShare TreeShare) (f : (cc0_scratch0 : Ref sig .tc).ty.Contents (Elt F)) :
    ((gM.slice (Rect.unit (s := S4096x4096) od ![l, 4096] inb) hu).view.loc (Dev.tc d : Thread nD τ)
        ↦[(gM.slice (Rect.unit (s := S4096x4096) od ![l, 4096] inb) hu).view.set]{q} f : sProp 𝕄)
      = ((d : Thread nD τ).loc cc0_scratch0 ↦[rows 4096 4096 R l]{q} f) :=
  congrArg (fun S => ((d : Thread nD τ).loc cc0_scratch0 ↦[S]{q} f : sProp 𝕄)) (set_g hod)

/-- A transfer to the rows it is for, from any source whose contents are the gathered ones. -/
theorem step_send (hi : i < 21) (hij : i < avail j) {d : Dev nD} (hd : d = bx c (tg (sendOrd i)))
    {l : ℕ} (hl : l = len (sendOrd i)) {od : Fin 2 → ℕ} (hod : od = ![512 * (bx c (mk (sendOrd i))).val + off (sendOrd i), 0])
    {src : Memref sig .tc .vmem ⟨2, ![l, 4096]⟩ .fp8e4m3} {q : PosShare TreeShare} {fs : Buf (Elt F) (src.view.loc (c : Thread nD τ))}
    {inbd} {hu : ∀ a, (Rect.unit (s := S4096x4096) od ![l, 4096] inbd).stride a = 1} {sS sem : SemLoc sig} (hsS : sS = .dma (sendS (sendOrd i))) (hsem : sem = .dma (recvS (sendOrd i)))
    (hsrc : source m ρ c (sendOrd i) = (src.view.loc (c : Thread nD τ) ↦[src.view.set]{q} fs))
    (hland : ∀ (fd : (cc0_scratch0 : Ref sig .tc).ty.Contents (Elt F)), ∀ p ∈ rows 4096 4096 (512 * (bx c (mk (sendOrd i))).val + off (sendOrd i)) l,
      (gM.slice (Rect.unit (s := S4096x4096) od ![l, 4096] inbd) hu).view.write (Elt F) fd (src.view.read (Elt F) fs) Finset.univ p = gath m ρ p)
    {hsc} {h1 : src.view.WordExact} {h2} {h3} {k : PUnit → Prog (TpuEff nD τ sig (Elt F) Λ₀ .tc) α}
    (h : St m ρ K Fr c (i + 1) j t ⊢ WP c (k ⟨⟩) Q) :
    St m ρ K Fr c i j t ⊢ WP c (.op (.enqueueDma src (.remote (Dev.tc d : Thread nD τ)
      (gM.slice (Rect.unit (s := S4096x4096) od ![l, 4096] inbd) hu) sS hsc) sem h1 h2 h3) k) Q := by
  subst hd hl hsS hsem
  unfold St know com
  iintro ⟨⟨#HR, #HL⟩, ⟨⟨%W, HO⟩, Hp, Hs, Ht, Hdn, Hc⟩, Hm, HF⟩
  ihave Hp' := (Entails.of_eq (bigSep_Ico_succ_bot hi (pend (F := F) c))) $$ Hp
  ihave Hs' := (Entails.of_eq (bigSep_Ico_succ_bot hij (fun n => source m ρ c (sendOrd n)))) $$ Hs
  unfold pend
  icases Hp' with ⟨⟨⟨%fd, Hd⟩, HtS, HtV⟩, Hp⟩
  icases Hs' with ⟨Hsrc, Hs⟩
  ihave Hsrc := (Entails.of_eq hsrc) $$ Hsrc
  ihave HrS := (records_send m ρ K c (sendOrd i)) $$ HR
  icases HrS with ⟨#HIS, #HRS⟩
  ihave HrV := (records_recv m ρ K (bx c (tg (sendOrd i))) (sendOrd i)) $$ HR
  icases HrV with ⟨#HIV, #HRV⟩
  iapply (Rounds.wp_send_pointsTo 𝒱₀ ER (Rd m ρ) (c : Thread nD τ) none (κ₁ := K (c, kS (sendOrd i))) (κ₂ := K (bx c (tg (sendOrd i)), kR (sendOrd i)))
      (r₁ := 0) (r₂ := 0) (d₁ := 0) (d₂ := 0) (fd := fd)
      (by rw [duties_send m ρ c _ (used_send i (Finset.mem_range.mpr hi))]; exact Finset.mem_singleton_self _)
      (by rw [duties_recv m ρ _ _ (used_send i (Finset.mem_range.mpr hi))]; exact Finset.mem_singleton_self _)
      () () (amt (sendOrd i)) rfl (amount_send m ρ c _ 0) (amount_recv m ρ _ _ 0) (Orest c (i + 1)) (Orest_succ c hi) (W := W)
      (by rw [payload_send, hsrc]) (by
        rw [payload_recv, slice_g _ hod]
        unfold recvPay region
        rw [R₀_target]
        exact Entails.of_eq (pointsTo_congr (hland fd))))
    $$ [Hsrc Hd HO HtS HtV]
  · isplitr; · iexact HIS
    isplitr; · iexact HIV
    isplitl [Hsrc]; · iexact Hsrc
    isplitl [Hd]
    · unfold region
      rw [R₀_target]
      rw [slice_g _ hod]
      iexact Hd
    isplitl [HO]; · iexact HO
    isplitl [HtS]; · iexact HtS
    isplitr; · iexact HRS
    isplitl [HtV]; · iexact HtV
    iexact HRV
  iintro ⟨HcS, HO⟩
  iapply h
  unfold St know com
  isplitr
  · isplitr; · iexact HR
    iexact HL
  isplitr [Hm HF]
  · isplitl [HO]; · iexists W; iexact HO
    isplitl [Hp]; · iexact Hp
    isplitl [Hs]; · iexact Hs
    isplitl [Ht]; · iexact Ht
    isplitl [Hdn]; · iexact Hdn
    rw [bigSep_range_succ]
    isplitl [HcS]; · unfold sent; iexact HcS
    iexact Hc
  isplitl [Hm]; · iexact Hm
  iexact HF

theorem slice_x (c : Dev nD) {l R : ℕ} {od : Fin 2 → ℕ} (hod : od = ![R, 0]) {inb hu} (q : PosShare TreeShare) (f : (cc0_stg0_0 : Ref sig .tc).ty.Contents (Elt F)) :
    ((xM.slice (Rect.unit (s := S512x4096) od ![l, 4096] inb) hu).view.loc (c : Thread nD τ)
        ↦[(xM.slice (Rect.unit (s := S512x4096) od ![l, 4096] inb) hu).view.set]{q} f : sProp 𝕄)
      = ((c : Thread nD τ).loc cc0_stg0_0 ↦[rows 512 4096 R l]{q} f) :=
  congrArg (fun S => ((c : Thread nD τ).loc cc0_stg0_0 ↦[S]{q} f : sProp 𝕄)) (set_x hod)

/-- A transfer of a stream of the device's own block. -/
theorem step_own (hi : i < 21) (hij : i < avail j) (h0 : (sendOrd i).val % 4 = 0) (hmk : mk (sendOrd i) = 0) {d : Dev nD} (hd : d = bx c (tg (sendOrd i)))
    {l : ℕ} (hl : l = len (sendOrd i)) {os : Fin 2 → ℕ} (hos : os = ![off (sendOrd i), 0]) {od : Fin 2 → ℕ} (hod : od = ![512 * (bx c (mk (sendOrd i))).val + off (sendOrd i), 0])
    {inbs inbd} {hu : ∀ a, (Rect.unit (s := S4096x4096) od ![l, 4096] inbd).stride a = 1} {hv : ∀ a, (Rect.unit (s := S512x4096) os ![l, 4096] inbs).stride a = 1}
    {sS sem : SemLoc sig} (hsS : sS = .dma (sendS (sendOrd i))) (hsem : sem = .dma (recvS (sendOrd i)))
    {hsc h1 h2 h3} {k : PUnit → Prog (TpuEff nD τ sig (Elt F) Λ₀ .tc) α}
    (h : St m ρ K Fr c (i + 1) j t ⊢ WP c (k ⟨⟩) Q) :
    St m ρ K Fr c i j t ⊢ WP c (.op (.enqueueDma (xM.slice (Rect.unit (s := S512x4096) os ![l, 4096] inbs) hv) (.remote (Dev.tc d : Thread nD τ)
      (gM.slice (Rect.unit (s := S4096x4096) od ![l, 4096] inbd) hu) sS hsc) sem h1 h2 h3) k) Q := by
  have hsrc := slice_x (F := F) c (l := l) (inb := inbs) (hu := hv) hos (Transfers.shareTokN fullShare (tk (sendOrd i))) (xstg m ρ c)
  refine step_send hi hij hd hl hod (src := xM.slice (Rect.unit (s := S512x4096) os ![l, 4096] inbs) hv) hsS hsem
    (q := Transfers.shareTokN fullShare (tk (sendOrd i))) (fs := xstg m ρ c) ?_ ?_ h
  · rw [hsrc, hl]; unfold source; rw [if_pos h0]; rfl
  · intro fd p hp
    exact landed_own m ρ c hos hod (by rw [hmk, bx_zero]) (by rw [hl]; exact off_len _) fd p hp

/-- A transfer that passes a landed piece on. -/
theorem step_fwd (hi : i < 21) (hij : i < avail j) (h0 : (sendOrd i).val % 4 ≠ 0) {d : Dev nD} (hd : d = bx c (tg (sendOrd i)))
    {l : ℕ} (hl : l = len (sendOrd i)) {od : Fin 2 → ℕ} (hod : od = ![512 * (bx c (mk (sendOrd i))).val + off (sendOrd i), 0])
    {inbs inbd} {hu : ∀ a, (Rect.unit (s := S4096x4096) od ![l, 4096] inbd).stride a = 1} {hv : ∀ a, (Rect.unit (s := S4096x4096) od ![l, 4096] inbs).stride a = 1}
    {sS sem : SemLoc sig} (hsS : sS = .dma (sendS (sendOrd i))) (hsem : sem = .dma (recvS (sendOrd i)))
    {hsc h1 h2 h3} {k : PUnit → Prog (TpuEff nD τ sig (Elt F) Λ₀ .tc) α}
    (h : St m ρ K Fr c (i + 1) j t ⊢ WP c (k ⟨⟩) Q) :
    St m ρ K Fr c i j t ⊢ WP c (.op (.enqueueDma (gM.slice (Rect.unit (s := S4096x4096) od ![l, 4096] inbs) hv) (.remote (Dev.tc d : Thread nD τ)
      (gM.slice (Rect.unit (s := S4096x4096) od ![l, 4096] inbd) hu) sS hsc) sem h1 h2 h3) k) Q := by
  have hsrc := slice_g (F := F) c (l := l) (inb := inbs) (hu := hv) hod (Transfers.shareTokN fullShare (tk (sendOrd i))) (gath m ρ)
  refine step_send hi hij hd hl hod (src := gM.slice (Rect.unit (s := S4096x4096) od ![l, 4096] inbs) hv) hsS hsem
    (q := Transfers.shareTokN fullShare (tk (sendOrd i))) (fs := gath m ρ) ?_ ?_ h
  · rw [hsrc, hl]; unfold source; rw [if_neg h0]
  · intro fd p hp
    exact landed_on m ρ hod hod fd p hp

/-- The wait for the next landing: its piece comes, what later transfers take of it beside. -/
theorem step_recv (hj : j < 21) (hi : i = avail j) {sem : DmaSem sig} (hsem : sem = recvS (recvOrd j))
    {s s' : Shape} {e e' : EltTy} {sp sp' : Space} {src : Memref sig .tc sp' s' e'} {dst : Memref sig .tc sp s e} (hcr : dst.view.dmaCredit = amt (recvOrd j))
    {h1 h2} {k : PUnit → Prog (TpuEff nD τ sig (Elt F) Λ₀ .tc) α}
    (h : St m ρ K Fr c i (j + 1) t ⊢ WP c (k ⟨⟩) Q) :
    St m ρ K Fr c i j t ⊢ WP c (.op (.waitDma2 sem src dst h1 h2) k) Q := by
  subst hsem hi
  have hx := used_recv j (Finset.mem_range.mpr hj)
  unfold St know com
  iintro ⟨⟨#HR, #HL⟩, ⟨⟨%W, HO⟩, Hp, Hs, Ht, Hdn, Hc⟩, Hm, HF⟩
  ihave Ht' := (Entails.of_eq (bigSep_Ico_succ_bot hj (todo (F := F) c))) $$ Ht
  unfold todo
  icases Ht' with ⟨⟨Hat, Hcr⟩, Ht⟩
  ihave HrV := (records_recv m ρ K c (recvOrd j)) $$ HR
  icases HrV with ⟨#HIV, -⟩
  iapply (Rounds.wp_wait_rest_token 𝒱₀ ER (Rd m ρ) (c : Thread nD τ) none (κ := K (c, kR (recvOrd j)))
      (wpE_waitDma2_eq 𝒱₀ (c : Thread nD τ) none Set.univ) (Set.mem_univ _) () (O := Orest c (avail j)) (W := W) (R := 0) (m := 0) (T := ∅)
      (by rw [Nat.zero_add, expect_recv m ρ c _ hx, hcr])) $$ [Hcr HO Hat]
  · isplitr; · iexact HIV
    isplitl [Hcr]; · rw [hcr]; iexact Hcr
    isplitl [HO]; · iexact HO
    isplitr; · iapply (mayWait_recv c (recvOrd j) (avail j) (cls_lt j (Finset.mem_range.mpr hj))); iexact HL
    iexact Hat
  iintro ⟨HO, Hat, -, Hpay⟩
  ihave Hpay := (Entails.of_eq ((rest_recv m ρ c _ hx).trans (landing m ρ c hj))) $$ Hpay
  icases Hpay with ⟨Hrest, Hsrc⟩
  iapply h
  unfold St know com
  isplitr
  · isplitr; · iexact HR
    iexact HL
  isplitr [Hm HF]
  · isplitl [HO]; · iexists _; iexact HO
    isplitl [Hp]; · iexact Hp
    isplitl [Hsrc]; · iexact Hsrc
    isplitl [Ht]; · iexact Ht
    isplitl [Hdn Hat Hrest]
    · rw [bigSep_range_succ]
      isplitl [Hat Hrest]
      · unfold done
        isplitl [Hat]; · iexact Hat
        iexact Hrest
      iexact Hdn
    iexact Hc
  isplitl [Hm]; · iexact Hm
  iexact HF

/-- A load of the last landed piece. -/
theorem step_load_g {l : ℕ} (hl : l = len (recvOrd j)) {od : Fin 2 → ℕ} (hod : od = ![R₀ c (recvOrd j), 0]) {inb hld}
    {k : ((⟨2, ![l, 4096]⟩ : Shape).Idx → Elt F .fp8e4m3) → Prog (TpuEff nD τ sig (Elt F) Λ₀ .tc) α}
    (h : St m ρ K Fr c i (j + 1) t ⊢ WP c (k (slab m ρ (R₀ c (recvOrd j)) l)) Q) :
    St m ρ K Fr c i (j + 1) t ⊢ WP c (.op (.load gM (Rect.unit (s := S4096x4096) od ![l, 4096] inb).toLoadRect hld) k) Q := by
  subst hl
  unfold St com at h ⊢
  rw [bigSep_range_succ] at h ⊢
  unfold done rest region at h ⊢
  iintro ⟨#HK, ⟨HO, Hp, Hs, Ht, ⟨⟨Hat, Hr⟩, Hdn⟩, Hc⟩, Hm, HF⟩
  iapply (wp_load_rect 𝒱₀ (c : Thread nD τ) none Set.univ (m := gM) (r := Rect.unit (s := S4096x4096) od ![len (recvOrd j), 4096] inb)
    (Finset.Subset.trans (le_of_eq (set_g (n := len (recvOrd j)) (inb := inb) hod)) (Finset.Subset.refl _))) $$ Hr
  iintro Hr
  rw [show (gM.access (Rect.unit (s := S4096x4096) od ![len (recvOrd j), 4096] inb)).read (Elt F) (gath m ρ) = slab m ρ (R₀ c (recvOrd j)) (len (recvOrd j)) from read_slab m ρ hod]
  iapply h
  isplitr; · iexact HK
  isplitr [Hm HF]
  · isplitl [HO]; · iexact HO
    isplitl [Hp]; · iexact Hp
    isplitl [Hs]; · iexact Hs
    isplitl [Ht]; · iexact Ht
    isplitl [Hdn Hat Hr]
    · isplitl [Hat Hr]
      · isplitl [Hat]; · iexact Hat
        iexact Hr
      iexact Hdn
    iexact Hc
  isplitl [Hm]; · iexact Hm
  iexact HF

theorem hz : (![0, 0] : Fin 2 → Nat) = fun _ => 0 := funext fun a => by fin_cases a <;> rfl
theorem hz1 : (![0] : Fin 1 → Nat) = fun _ => 0 := funext fun a => by fin_cases a <;> rfl

/-- A load of the device's own block of `x`. -/
theorem step_load_x {inb hld} {k : (S512x4096.Idx → Elt F .fp8e4m3) → Prog (TpuEff nD τ sig (Elt F) Λ₀ .tc) α}
    (h : St m ρ K Fr c i j t ⊢ WP c (k (xstg m ρ c)) Q) :
    St m ρ K Fr c i j t ⊢ WP c (.op (.load xM (Rect.unit (s := S512x4096) ![0, 0] S512x4096.size inb).toLoadRect hld) k) Q := by
  unfold St mem at h ⊢
  iintro ⟨#HK, Hc, ⟨Hx, Hw, Hax, Haw, Ho⟩, HF⟩
  iapply (wp_load 𝒱₀ (c : Thread nD τ) none Set.univ (m := xM) (Finset.subset_univ _)) $$ Hx; iintro Hx
  rw [show xM.view.readAt (Elt F) (Rect.unit (s := S512x4096) ![0, 0] S512x4096.size inb).toLoadRect (xstg m ρ c) = xstg m ρ c from Memref.readAt_unit_zero (Elt F) cc0_stg0_0 hz _ _]
  iapply h
  isplitr; · iexact HK
  isplitl [Hc]; · iexact Hc
  isplitr [HF]
  · isplitl [Hx]; · iexact Hx
    isplitl [Hw]; · iexact Hw
    isplitl [Hax]; · iexact Hax
    isplitl [Haw]; · iexact Haw
    iexact Ho
  iexact HF

/-- A load of the staged `w`. -/
theorem step_load_w {inb hld} {k : (S4096x256.Idx → Elt F .fp8e5m2) → Prog (TpuEff nD τ sig (Elt F) Λ₀ .tc) α}
    (h : St m ρ K Fr c i j t ⊢ WP c (k (wstg m ρ c)) Q) :
    St m ρ K Fr c i j t ⊢ WP c (.op (.load wM (Rect.unit (s := S4096x256) ![0, 0] S4096x256.size inb).toLoadRect hld) k) Q := by
  unfold St mem at h ⊢
  iintro ⟨#HK, Hc, ⟨Hx, Hw, Hax, Haw, Ho⟩, HF⟩
  iapply (wp_load 𝒱₀ (c : Thread nD τ) none Set.univ (m := wM) (Finset.subset_univ _)) $$ Hw; iintro Hw
  rw [show wM.view.readAt (Elt F) (Rect.unit (s := S4096x256) ![0, 0] S4096x256.size inb).toLoadRect (wstg m ρ c) = wstg m ρ c from Memref.readAt_unit_zero (Elt F) cc0_stg1_0 hz _ _]
  iapply h
  isplitr; · iexact HK
  isplitl [Hc]; · iexact Hc
  isplitr [HF]
  · isplitl [Hx]; · iexact Hx
    isplitl [Hw]; · iexact Hw
    isplitl [Hax]; · iexact Hax
    isplitl [Haw]; · iexact Haw
    iexact Ho
  iexact HF

/-- A load of the scale of `x`. -/
theorem step_load_ax {inb hld} {k : (S1.Idx → Elt F .f32) → Prog (TpuEff nD τ sig (Elt F) Λ₀ .tc) α}
    (h : St m ρ K Fr c i j t ⊢ WP c (k (axstg m ρ c)) Q) :
    St m ρ K Fr c i j t ⊢ WP c (.op (.load axM (Rect.unit (s := S1) ![0] S1.size inb).toLoadRect hld) k) Q := by
  unfold St mem at h ⊢
  iintro ⟨#HK, Hc, ⟨Hx, Hw, Hax, Haw, Ho⟩, HF⟩
  iapply (wp_load 𝒱₀ (c : Thread nD τ) none Set.univ (m := axM) (Finset.subset_univ _)) $$ Hax; iintro Hax
  rw [show axM.view.readAt (Elt F) (Rect.unit (s := S1) ![0] S1.size inb).toLoadRect (axstg m ρ c) = axstg m ρ c from Memref.readAt_unit_zero (Elt F) cc0_stg2_0 hz1 _ _]
  iapply h
  isplitr; · iexact HK
  isplitl [Hc]; · iexact Hc
  isplitr [HF]
  · isplitl [Hx]; · iexact Hx
    isplitl [Hw]; · iexact Hw
    isplitl [Hax]; · iexact Hax
    isplitl [Haw]; · iexact Haw
    iexact Ho
  iexact HF

/-- A load of the scale of `w`. -/
theorem step_load_aw {inb hld} {k : (S1.Idx → Elt F .f32) → Prog (TpuEff nD τ sig (Elt F) Λ₀ .tc) α}
    (h : St m ρ K Fr c i j t ⊢ WP c (k (awstg m ρ c)) Q) :
    St m ρ K Fr c i j t ⊢ WP c (.op (.load awM (Rect.unit (s := S1) ![0] S1.size inb).toLoadRect hld) k) Q := by
  unfold St mem at h ⊢
  iintro ⟨#HK, Hc, ⟨Hx, Hw, Hax, Haw, Ho⟩, HF⟩
  iapply (wp_load 𝒱₀ (c : Thread nD τ) none Set.univ (m := awM) (Finset.subset_univ _)) $$ Haw; iintro Haw
  rw [show awM.view.readAt (Elt F) (Rect.unit (s := S1) ![0] S1.size inb).toLoadRect (awstg m ρ c) = awstg m ρ c from Memref.readAt_unit_zero (Elt F) cc0_stg3_0 hz1 _ _]
  iapply h
  isplitr; · iexact HK
  isplitl [Hc]; · iexact Hc
  isplitr [HF]
  · isplitl [Hx]; · iexact Hx
    isplitl [Hw]; · iexact Hw
    isplitl [Hax]; · iexact Hax
    isplitl [Haw]; · iexact Haw
    iexact Ho
  iexact HF

/-- A load of the result buffer, whose value nothing depends on. -/
theorem step_load_o {r : Rect S4096x256} {hld} {k : (r.shape.Idx → Elt F .f32) → Prog (TpuEff nD τ sig (Elt F) Λ₀ .tc) α}
    (h : ∀ v, St m ρ K Fr c i j t ⊢ WP c (k v) Q) :
    St m ρ K Fr c i j t ⊢ WP c (.op (.load oM r.toLoadRect hld) k) Q := by
  unfold St mem at h ⊢
  iintro ⟨#HK, Hc, ⟨Hx, Hw, Hax, Haw, ⟨%f, %hf, Ho⟩⟩, HF⟩
  iapply (wp_load 𝒱₀ (c : Thread nD τ) none Set.univ (m := oM) (Finset.subset_univ _)) $$ Ho; iintro Ho
  iapply (h _)
  isplitr; · iexact HK
  isplitl [Hc]; · iexact Hc
  isplitr [HF]
  · isplitl [Hx]; · iexact Hx
    isplitl [Hw]; · iexact Hw
    isplitl [Hax]; · iexact Hax
    isplitl [Haw]; · iexact Haw
    iexists f
    isplitr; · (ipureintro; exact hf)
    iexact Ho
  iexact HF

/-- A store of rows into the result buffer: those rows are the stored ones, the others what they were. -/
theorem stored_write {n R : ℕ} {od : Fin 2 → ℕ} (hod : od = ![R, 0]) {inb} (w : (⟨2, ![n, 256]⟩ : Shape).Idx → Elt F .f32) (hw : TileAt m ρ c R w)
    (f : (cc0_stg4_0 : Ref sig .tc).ty.Contents (Elt F)) (p : S4096x256.Idx) (hp : p ∈ rows 4096 256 R n ∨ f p = outF m ρ c p) :
    (oM.access (Rect.unit (s := S4096x256) od ![n, 256] inb)).write (Elt F) f w Finset.univ p = outF m ρ c p := by
  have hset : (oM.access (Rect.unit (s := S4096x256) od ![n, 256] inb)).set = rows 4096 256 R n :=
    (View.set_slice_whole cc0_stg4_0 (Rect.unit (s := S4096x256) od ![n, 256] inb)).trans (mem_unit_rows hod)
  by_cases h : p ∈ rows 4096 256 R n
  · rw [← hset] at h
    obtain ⟨y, -, rfl⟩ := Finset.mem_map.mp h
    rw [View.write_emb_of_mem _ _ (Finset.mem_univ y)]
    subst hod
    exact hw y _ (by show R + 1 * (y 0).val = R + (y 0).val; omega) (Fin.ext (by show 0 + 1 * (y 1).val = (y 1).val; omega))
  · rw [View.write_of_not_mem]
    · exact hp.resolve_left h
    · rw [View.setOn_univ, hset]; exact h

/-- The store of a tile. -/
theorem step_store {n R : ℕ} {od : Fin 2 → ℕ} (hod : od = ![R, 0]) {inb} {w : (⟨2, ![n, 256]⟩ : Shape).Idx → Elt F .f32} (hw : TileAt m ρ c R w)
    (hst : ∀ p, Stored c (t + 1) p → p ∈ rows 4096 256 R n ∨ Stored c t p) {hx hm} {k : PUnit → Prog (TpuEff nD τ sig (Elt F) Λ₀ .tc) α}
    (h : St m ρ K Fr c i j (t + 1) ⊢ WP c (k ⟨⟩) Q) :
    St m ρ K Fr c i j t ⊢ WP c (.op (.store oM (Rect.unit (s := S4096x256) od ![n, 256] inb) w Finset.univ hx hm) k) Q := by
  unfold St mem at h ⊢
  iintro ⟨#HK, Hc, ⟨Hx, Hw, Hax, Haw, ⟨%f, %hf, Ho⟩⟩, HF⟩
  iapply (wp_store 𝒱₀ (c : Thread nD τ) none Set.univ (m := oM) (r := Rect.unit (s := S4096x256) od ![n, 256] inb) (Mk := Finset.univ) (Finset.subset_univ _)) $$ Ho
  iintro Ho
  iapply h
  isplitr; · iexact HK
  isplitl [Hc]; · iexact Hc
  isplitr [HF]
  · isplitl [Hx]; · iexact Hx
    isplitl [Hw]; · iexact Hw
    isplitl [Hax]; · iexact Hax
    isplitl [Haw]; · iexact Haw
    iexists ((oM.access (Rect.unit (s := S4096x256) od ![n, 256] inb)).write (Elt F) f w Finset.univ)
    isplitr
    · ipureintro
      exact fun p hp => stored_write hod w hw f p ((hst p hp).imp id (hf p))
    iexact Ho
  iexact HF

/-- The store of the own block's tile, the first. -/
theorem step_store_own {od : Fin 2 → ℕ} (hod : od = ![512 * c.val, 0]) {inb} {w : S512x256.Idx → Elt F .f32} (hw : w = tOwn m ρ c)
    {hx hm} {k : PUnit → Prog (TpuEff nD τ sig (Elt F) Λ₀ .tc) α} (h : St m ρ K Fr c i j 1 ⊢ WP c (k ⟨⟩) Q) :
    St m ρ K Fr c i j 0 ⊢ WP c (.op (.store oM (Rect.unit (s := S4096x256) od ![512, 256] inb) w Finset.univ hx hm) k) Q := by
  subst hw
  exact step_store (t := 0) hod (tile_own m ρ c) (fun p hp => .inl (stored_one c p hp)) h

/-- The store of landing `j`'s tile, of 160 rows. -/
theorem step_store_160 (hj : j < 21) (hl : len (recvOrd j) = 160) {od : Fin 2 → ℕ} (hod : od = ![R₀ c (recvOrd j), 0]) {inb} {w : S160x256.Idx → Elt F .f32}
    (hw : w = t160 m ρ c (R₀ c (recvOrd j))) {hx hm} {k : PUnit → Prog (TpuEff nD τ sig (Elt F) Λ₀ .tc) α}
    (h : St m ρ K Fr c i (j + 1) (j + 2) ⊢ WP c (k ⟨⟩) Q) :
    St m ρ K Fr c i (j + 1) (j + 1) ⊢ WP c (.op (.store oM (Rect.unit (s := S4096x256) od ![160, 256] inb) w Finset.univ hx hm) k) Q := by
  subst hw
  exact step_store hod (tile_160 m ρ c _ (used_recv j (Finset.mem_range.mpr hj)) hl) (fun p hp => hl ▸ stored_succ c j p hp) h

/-- The store of landing `j`'s tile, of 192 rows. -/
theorem step_store_192 (hj : j < 21) (hl : len (recvOrd j) = 192) {od : Fin 2 → ℕ} (hod : od = ![R₀ c (recvOrd j), 0]) {inb} {w : S192x256.Idx → Elt F .f32}
    (hw : w = t192 m ρ c (R₀ c (recvOrd j))) {hx hm} {k : PUnit → Prog (TpuEff nD τ sig (Elt F) Λ₀ .tc) α}
    (h : St m ρ K Fr c i (j + 1) (j + 2) ⊢ WP c (k ⟨⟩) Q) :
    St m ρ K Fr c i (j + 1) (j + 1) ⊢ WP c (.op (.store oM (Rect.unit (s := S4096x256) od ![192, 256] inb) w Finset.univ hx hm) k) Q := by
  subst hw
  exact step_store hod (tile_192 m ρ c _ (used_recv j (Finset.mem_range.mpr hj)) hl) (fun p hp => hl ▸ stored_succ c j p hp) h

/-- Transfer `x`'s completion still to be waited for. -/
def owed (c : Dev nD) (x : X) : sProp 𝕄 := iprop(atPos ER (sendCell c x) 0 ∅ 0 ∗ sent (F := F) c x)
/-- Transfer `x`'s completion waited for: its source is back. -/
def back (m : (ℓ : Loc nD τ sig) → Buf (Elt F) ℓ) (ρ : Dev nD → PrngReg) (c : Dev nD) (x : X) : sProp 𝕄 := iprop(atPos ER (sendCell c x) 1 ∅ 0 ∗ source m ρ c x)

/-- The state once all transfers are started and all landings taken, the first `i` completions waited for. -/
def St₂ (m : (ℓ : Loc nD τ sig) → Buf (Elt F) ℓ) (ρ : Dev nD → PrngReg) (K : Dev nD × Fin 73 → ℕ) (Fr : sProp 𝕄) (c : Dev nD) (i : ℕ) : sProp 𝕄 :=
  iprop(know m ρ K ∗ (∃ W, owes (c : Thread nD τ) 0 W) ∗ bigSep (Finset.Ico i 21) (fun n => owed (F := F) c (waitOrd n))
    ∗ bigSep (Finset.range i) (fun n => back m ρ c (waitOrd n)) ∗ Fr)

/-- The wait for the next transfer's completion. -/
theorem step_wait (hi : i < 21) {sem : DmaSem sig} (hsem : sem = sendS (waitOrd i))
    {s s' : Shape} {e e' : EltTy} {sp sp' : Space} {src : Memref sig .tc sp' s' e'} {dst : Memref sig .tc sp s e} (hcr : dst.view.dmaCredit = amt (waitOrd i))
    {h1 h2} {k : PUnit → Prog (TpuEff nD τ sig (Elt F) Λ₀ .tc) α}
    (h : St₂ m ρ K Fr c (i + 1) ⊢ WP c (k ⟨⟩) Q) :
    St₂ m ρ K Fr c i ⊢ WP c (.op (.waitDma2 sem src dst h1 h2) k) Q := by
  subst hsem
  have hx := used_wait i (Finset.mem_range.mpr hi)
  unfold St₂ know
  iintro ⟨⟨#HR, #HL⟩, ⟨%W, HO⟩, Ht, Hdn, HF⟩
  ihave Ht' := (Entails.of_eq (bigSep_Ico_succ_bot hi (fun n => owed (F := F) c (waitOrd n)))) $$ Ht
  unfold owed sent
  icases Ht' with ⟨⟨Hat, Hcr⟩, Ht⟩
  ihave HrV := (records_send m ρ K c (waitOrd i)) $$ HR
  icases HrV with ⟨#HIV, -⟩
  iapply (Rounds.wp_wait_rest_token 𝒱₀ ER (Rd m ρ) (c : Thread nD τ) none (κ := K (c, kS (waitOrd i)))
      (wpE_waitDma2_eq 𝒱₀ (c : Thread nD τ) none Set.univ) (Set.mem_univ _) () (O := 0) (W := W) (R := 0) (m := 0) (T := ∅)
      (by rw [Nat.zero_add, expect_send m ρ c _ hx, hcr])) $$ [Hcr HO Hat]
  · isplitr; · iexact HIV
    isplitl [Hcr]; · rw [hcr]; iexact Hcr
    isplitl [HO]; · iexact HO
    isplitr; · rw [MayWait_zero]; iempintro
    iexact Hat
  iintro ⟨HO, Hat, -, Hpay⟩
  ihave Hpay := (Entails.of_eq (rest_send m ρ c _ hx)) $$ Hpay
  iapply h
  unfold St₂ know owed sent
  isplitr
  · isplitr; · iexact HR
    iexact HL
  isplitl [HO]; · iexists _; iexact HO
  isplitl [Ht]; · iexact Ht
  isplitl [Hdn Hat Hpay]
  · rw [bigSep_range_succ]
    isplitl [Hat Hpay]
    · unfold back
      isplitl [Hat]; · iexact Hat
      iexact Hpay
    iexact Hdn
  iexact HF

end Steps

end Cert.Gather

end
-- ==== Proof.Walk.lean ====
/-
# The body, part by part

The printed body in its parts, each walked at a symbolic device `c`: a part takes the state it is entered with to the state it is
left with, and says of a value it hands on to a later part what that is.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The printed devices and offsets -/

/-- Whom each transfer is addressed to. -/
theorem dev_eq : ∀ c : Dev nD, ∀ n : Fin 21, (![k0_dev4 c, k0_dev5 c, k0_dev6 c, k0_dev7 c, k0_dev8 c, k0_dev9 c, k0_dev10 c, k0_dev11 c, k0_dev12 c, k0_dev13 c,
    k0_dev14 c, k0_dev15 c, k0_dev16 c, k0_dev17 c, k0_dev18 c, k0_dev19 c, k0_dev20 c, k0_dev21 c, k0_dev22 c, k0_dev23 c, k0_dev24 c] : Fin 21 → ℕ) n
      = (bx c (tg (sendOrd n.val))).val := by decide +kernel
/-- Whom each signal is addressed to. -/
theorem bar_eq : ∀ c : Dev nD, ∀ g : Fin 3, (![k0_dev1 c, k0_dev2 c, k0_dev3 c] : Fin 3 → ℕ) g = (bx c (dir g)).val := by decide +kernel
/-- The rows each transfer writes on its target; for a transfer of a landed piece, also those it reads. -/
theorem send_off : ∀ c : Dev nD, ∀ n : Fin 21, (![k0_off1 c 0#32 0#32, k0_off1 c 0#32 0#32, k0_off1 c 0#32 0#32, k0_off1 c 0#32 160#32, k0_off1 c 0#32 160#32,
    k0_off1 c 0#32 160#32, k0_off2 c 0#32, k0_off2 c 0#32, k0_off2 c 0#32, k0_off1 c 1#32 0#32, k0_off1 c 1#32 0#32, k0_off1 c 3#32 0#32, k0_off1 c 3#32 160#32,
    k0_off1 c 3#32 160#32, k0_off1 c 4#32 160#32, k0_off2 c 4#32, k0_off2 c 4#32, k0_off2 c 1#32, k0_off1 c 2#32 0#32, k0_off2 c 5#32, k0_off1 c 7#32 160#32]
      : Fin 21 → Fin 2 → ℕ) n = ![512 * (bx c (mk (sendOrd n.val))).val + off (sendOrd n.val), 0] := by decide +kernel
/-- The rows of each landing's load. -/
theorem load_off : ∀ c : Dev nD, ∀ n : Fin 21, (![k0_off5 c 1#32 0#32 0#32, k0_off5 c 3#32 0#32 0#32, k0_off5 c 4#32 0#32 0#32, k0_off5 c 3#32 0#32 160#32,
    k0_off5 c 4#32 0#32 160#32, k0_off5 c 1#32 0#32 160#32, k0_off8 c 4#32 0#32, k0_off8 c 1#32 0#32, k0_off8 c 3#32 0#32, k0_off5 c 3#32 1#32 0#32,
    k0_off5 c 4#32 1#32 0#32, k0_off5 c 1#32 3#32 160#32, k0_off5 c 1#32 4#32 160#32, k0_off5 c 4#32 3#32 0#32, k0_off8 c 1#32 4#32, k0_off8 c 3#32 1#32,
    k0_off5 c 4#32 3#32 160#32, k0_off8 c 3#32 4#32, k0_off5 c 4#32 2#32 0#32, k0_off5 c 1#32 7#32 160#32, k0_off8 c 3#32 5#32]
      : Fin 21 → Fin 2 → ℕ) n = ![R₀ c (recvOrd n.val), 0] := by decide +kernel
/-- The rows of each landing's store. -/
theorem store_off : ∀ c : Dev nD, ∀ n : Fin 21, (![k0_off6 c 1#32 0#32 0#32, k0_off6 c 3#32 0#32 0#32, k0_off6 c 4#32 0#32 0#32, k0_off6 c 3#32 0#32 160#32,
    k0_off6 c 4#32 0#32 160#32, k0_off6 c 1#32 0#32 160#32, k0_off9 c 4#32 0#32, k0_off9 c 1#32 0#32, k0_off9 c 3#32 0#32, k0_off6 c 3#32 1#32 0#32,
    k0_off6 c 4#32 1#32 0#32, k0_off6 c 1#32 3#32 160#32, k0_off6 c 1#32 4#32 160#32, k0_off6 c 4#32 3#32 0#32, k0_off9 c 1#32 4#32, k0_off9 c 3#32 1#32,
    k0_off6 c 4#32 3#32 160#32, k0_off9 c 3#32 4#32, k0_off6 c 4#32 2#32 0#32, k0_off6 c 1#32 7#32 160#32, k0_off9 c 3#32 5#32]
      : Fin 21 → Fin 2 → ℕ) n = ![R₀ c (recvOrd n.val), 0] := by decide +kernel
/-- The rows of the own block's store. -/
theorem own_off : ∀ c : Dev nD, k0_off3 c = ![512 * c.val, 0] := by decide +kernel

/-- A function of the body's buffers and semaphores, at the ones the call passes. -/
abbrev onBufs {β : Type 1} (f : (arg0 : Memref sig .tc .vmem S512x4096 .fp8e4m3) → arg0.IsWhole → (arg1 : Memref sig .tc .vmem S4096x256 .fp8e5m2) → arg1.IsWhole →
    (arg2 : Memref sig .tc .smem S1 .f32) → arg2.IsWhole → (arg3 : Memref sig .tc .smem S1 .f32) → arg3.IsWhole → (arg4 : Memref sig .tc .vmem S4096x256 .f32) → arg4.IsWhole →
    (arg5 : Memref sig .tc .vmem S4096x4096 .fp8e4m3) → arg5.IsWhole → DmaSems sig S3x3x4 → DmaSems sig S3x3x4 → β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_scratch0) (Memref.isWhole_whole _)
    cc0_scratch1 cc0_scratch2

section Walk

variable {m : (ℓ : Loc nD τ sig) → Buf (Elt F) ℓ} {ρ : Dev nD → PrngReg}
variable {K : Dev nD × Fin 73 → ℕ} {Fr : sProp (MT nD τ sig Unit (Elt F) ℕ UU ℕ)} {c : Dev nD}

/-- A value returned. -/
theorem wp_done {α : Type} {Q : α → sProp (MT nD τ sig Unit (Elt F) ℕ UU ℕ)} {P : sProp (MT nD τ sig Unit (Elt F) ℕ UU ℕ)} {a : α} (h : P ⊢ Q a) :
    P ⊢ WP c (.ret a) Q := by
  unfold WP
  rw [wp_ret]
  iintro H
  imodintro
  iapply h
  iexact H

/-- Transfers 0 to 2. -/
theorem part_2 {v2} {Q : BitVec 32 → sProp (MT nD τ sig Unit (Elt F) ℕ UU ℕ)}
    (h : ∀ r, St m ρ K Fr c 3 0 0 ⊢ Q r) :
    St m ρ K Fr c 0 0 0 ⊢ WP c (onBufs (k0_part2 (F := F)) c v2) Q := by
  unfold onBufs
  simp only [k0_part2_eq_skeleton]; unfold k0_part2_skel
  simp only [Prog.lift, Prog.bind_op, Prog.bind_ret, Prog.pure_eq_ret]
  refine step_own (by decide) (by decide) (by decide) (by decide) (Fin.ext (dev_eq c 0)) rfl rfl (send_off c 0) rfl rfl ?_
  refine step_own (by decide) (by decide) (by decide) (by decide) (Fin.ext (dev_eq c 1)) rfl rfl (send_off c 1) rfl rfl ?_
  refine step_own (by decide) (by decide) (by decide) (by decide) (Fin.ext (dev_eq c 2)) rfl rfl (send_off c 2) rfl rfl ?_
  exact wp_done (h _)

/-- Transfers 3 and 4. -/
theorem part_3 {v2 v49} {Q : PUnit → sProp (MT nD τ sig Unit (Elt F) ℕ UU ℕ)}
    (h : St m ρ K Fr c 5 0 0 ⊢ Q ⟨⟩) :
    St m ρ K Fr c 3 0 0 ⊢ WP c (onBufs (k0_part3 (F := F)) c v2 v49) Q := by
  unfold onBufs
  simp only [k0_part3_eq_skeleton]; unfold k0_part3_skel
  simp only [Prog.lift, Prog.bind_op, Prog.bind_ret, Prog.pure_eq_ret]
  refine step_own (by decide) (by decide) (by decide) (by decide) (Fin.ext (dev_eq c 3)) rfl rfl (send_off c 3) rfl rfl ?_
  refine step_own (by decide) (by decide) (by decide) (by decide) (Fin.ext (dev_eq c 4)) rfl rfl (send_off c 4) rfl rfl ?_
  exact wp_done h

/-- Transfers 5 and 6. -/
theorem part_4 {v2} {Q : BitVec 32 → sProp (MT nD τ sig Unit (Elt F) ℕ UU ℕ)}
    (h : ∀ r, St m ρ K Fr c 7 0 0 ⊢ Q r) :
    St m ρ K Fr c 5 0 0 ⊢ WP c (onBufs (k0_part4 (F := F)) c v2) Q := by
  unfold onBufs
  simp only [k0_part4_eq_skeleton]; unfold k0_part4_skel
  simp only [Prog.lift, Prog.bind_op, Prog.bind_ret, Prog.pure_eq_ret]
  refine step_own (by decide) (by decide) (by decide) (by decide) (Fin.ext (dev_eq c 5)) rfl rfl (send_off c 5) rfl rfl ?_
  refine step_own (by decide) (by decide) (by decide) (by decide) (Fin.ext (dev_eq c 6)) rfl rfl (send_off c 6) rfl rfl ?_
  exact wp_done (h _)

/-- Transfers 7 and 8, and the own block's product. -/
theorem part_5 {v2 v100} {Q : (Σ' (v121 : BitVec 32) (v126 : FVec F S512x256 .f32), Elt F .f32) → sProp (MT nD τ sig Unit (Elt F) ℕ UU ℕ)}
    (h : ∀ r, St m ρ K Fr c 9 0 0 ⊢ Q ⟨r, k0_pay1 (xstg m ρ c) (wstg m ρ c), axv m ρ c⟩) :
    St m ρ K Fr c 7 0 0 ⊢ WP c (onBufs (k0_part5 (F := F)) c v2 v100) Q := by
  unfold onBufs
  simp only [k0_part5_eq_skeleton]; unfold k0_part5_skel smemLoad smemLoadElt
  simp only [Prog.lift, Prog.bind_op, Prog.bind_ret, Prog.pure_eq_ret]
  refine step_own (by decide) (by decide) (by decide) (by decide) (Fin.ext (dev_eq c 7)) rfl rfl (send_off c 7) rfl rfl ?_
  refine step_own (by decide) (by decide) (by decide) (by decide) (Fin.ext (dev_eq c 8)) rfl rfl (send_off c 8) rfl rfl ?_
  refine step_load_x (step_load_w (step_load_ax ?_))
  exact wp_done (h _)

/-- The own block's tile is stored; landing 0. -/
theorem part_6 {v2 v121} {Q : BitVec 32 → sProp (MT nD τ sig Unit (Elt F) ℕ UU ℕ)}
    (h : ∀ r, St m ρ K Fr c 9 1 1 ⊢ Q r) :
    St m ρ K Fr c 9 0 0 ⊢ WP c (onBufs (k0_part6 (F := F)) c v2 v121 (k0_pay1 (xstg m ρ c) (wstg m ρ c)) (axv m ρ c)) Q := by
  unfold onBufs
  simp only [k0_part6_eq_skeleton]; unfold k0_part6_skel smemLoad smemLoadElt
  simp only [Prog.lift, Prog.bind_op, Prog.bind_ret, Prog.pure_eq_ret]
  refine step_load_aw (step_load_o fun _ => step_store_own (own_off c) rfl ?_)
  refine step_recv (by decide) (by decide) (by decide) rfl ?_
  exact wp_done (h _)

/-- Transfers 9 and 10; the tile of landing 0. -/
theorem part_7 {v2 v139} {Q : BitVec 32 → sProp (MT nD τ sig Unit (Elt F) ℕ UU ℕ)}
    (h : ∀ r, St m ρ K Fr c 11 1 2 ⊢ Q r) :
    St m ρ K Fr c 9 1 1 ⊢ WP c (onBufs (k0_part7 (F := F)) c v2 v139) Q := by
  unfold onBufs
  simp only [k0_part7_eq_skeleton]; unfold k0_part7_skel smemLoad smemLoadElt
  simp only [Prog.lift, Prog.bind_op, Prog.bind_ret, Prog.pure_eq_ret]
  refine step_fwd (by decide) (by decide) (by decide) (Fin.ext (dev_eq c 9)) rfl (send_off c 9) rfl rfl ?_
  refine step_fwd (by decide) (by decide) (by decide) (Fin.ext (dev_eq c 10)) rfl (send_off c 10) rfl rfl ?_
  refine step_load_g rfl (load_off c 0) (step_load_w (step_load_ax (step_load_aw (step_load_o fun _ => ?_))))
  refine step_store_160 (by decide) rfl (store_off c 0) rfl ?_
  exact wp_done (h _)

/-- Landing 1, transfer 11, and the product of landing 1. -/
theorem part_8 {v2 v186} {Q : (Σ' (v188 : BitVec 32), FVec F S160x256 .f32) → sProp (MT nD τ sig Unit (Elt F) ℕ UU ℕ)}
    (h : ∀ r, St m ρ K Fr c 12 2 2 ⊢ Q ⟨r, k0_pay4 (slab m ρ (R₀ c (recvOrd 1)) 160) (wstg m ρ c)⟩) :
    St m ρ K Fr c 11 1 2 ⊢ WP c (onBufs (k0_part8 (F := F)) c v2 v186) Q := by
  unfold onBufs
  simp only [k0_part8_eq_skeleton]; unfold k0_part8_skel
  simp only [Prog.lift, Prog.bind_op, Prog.bind_ret, Prog.pure_eq_ret]
  refine step_recv (by decide) (by decide) (by decide) rfl ?_
  refine step_fwd (by decide) (by decide) (by decide) (Fin.ext (dev_eq c 11)) rfl (send_off c 11) rfl rfl ?_
  refine step_load_g rfl (load_off c 1) (step_load_w ?_)
  exact wp_done (h _)

/-- The tile of landing 1; landing 2 and its tile's values. -/
theorem part_9 {v2 v188} {Q : (FVec F S160x256 .f32) → sProp (MT nD τ sig Unit (Elt F) ℕ UU ℕ)}
    (h : St m ρ K Fr c 12 3 3 ⊢ Q (k0_pay6 (slab m ρ (R₀ c (recvOrd 2)) 160) (wstg m ρ c) (axv m ρ c) (awv m ρ c))) :
    St m ρ K Fr c 12 2 2 ⊢ WP c (onBufs (k0_part9 (F := F)) c v2 v188 (k0_pay4 (slab m ρ (R₀ c (recvOrd 1)) 160) (wstg m ρ c))) Q := by
  unfold onBufs
  simp only [k0_part9_eq_skeleton]; unfold k0_part9_skel smemLoad smemLoadElt
  simp only [Prog.lift, Prog.bind_op, Prog.bind_ret, Prog.pure_eq_ret]
  refine step_load_ax (step_load_aw (step_load_o fun _ => ?_))
  refine step_store_160 (by decide) rfl (store_off c 1) rfl ?_
  refine step_recv (by decide) (by decide) (by decide) rfl ?_
  refine step_load_g rfl (load_off c 2) (step_load_w (step_load_ax (step_load_aw ?_)))
  exact wp_done h

/-- The tile of landing 2; landing 3; transfer 12. -/
theorem part_10 {v2} {Q : (Σ' (a : BitVec 32) (b : BitVec 32), BitVec 32) → sProp (MT nD τ sig Unit (Elt F) ℕ UU ℕ)}
    (h : ∀ r, St m ρ K Fr c 13 4 4 ⊢ Q r) :
    St m ρ K Fr c 12 3 3 ⊢ WP c (onBufs (k0_part10 (F := F)) c v2 (k0_pay6 (slab m ρ (R₀ c (recvOrd 2)) 160) (wstg m ρ c) (axv m ρ c) (awv m ρ c))) Q := by
  unfold onBufs
  simp only [k0_part10_eq_skeleton]; unfold k0_part10_skel
  simp only [Prog.lift, Prog.bind_op, Prog.bind_ret, Prog.pure_eq_ret]
  refine step_load_o fun _ => ?_
  refine step_store_160 (by decide) rfl (store_off c 2) rfl ?_
  refine step_recv (by decide) (by decide) (by decide) rfl ?_
  refine step_fwd (by decide) (by decide) (by decide) (Fin.ext (dev_eq c 12)) rfl (send_off c 12) rfl rfl ?_
  exact wp_done (h _)

/-- Transfer 13; the tile of landing 3. -/
theorem part_11 {v2 v250 v270 k} {Q : (Σ' (a : BitVec 32), BitVec 32) → sProp (MT nD τ sig Unit (Elt F) ℕ UU ℕ)}
    (h : ∀ r, St m ρ K Fr c 14 4 5 ⊢ Q r) :
    St m ρ K Fr c 13 4 4 ⊢ WP c (onBufs (k0_part11 (F := F)) c v2 v250 v270 k) Q := by
  unfold onBufs
  simp only [k0_part11_eq_skeleton]; unfold k0_part11_skel smemLoad smemLoadElt
  simp only [Prog.lift, Prog.bind_op, Prog.bind_ret, Prog.pure_eq_ret]
  refine step_fwd (by decide) (by decide) (by decide) (Fin.ext (dev_eq c 13)) rfl (send_off c 13) rfl rfl ?_
  refine step_load_g rfl (load_off c 3) (step_load_w (step_load_ax (step_load_aw (step_load_o fun _ => ?_))))
  refine step_store_160 (by decide) rfl (store_off c 3) rfl ?_
  exact wp_done (h _)

/-- Landing 4, transfer 14, and the values of landing 4's tile. -/
theorem part_12 {v2 v299 v300} {Q : (FVec F S160x256 .f32) → sProp (MT nD τ sig Unit (Elt F) ℕ UU ℕ)}
    (h : St m ρ K Fr c 15 5 5 ⊢ Q (k0_pay8 (slab m ρ (R₀ c (recvOrd 4)) 160) (wstg m ρ c) (axv m ρ c) (awv m ρ c))) :
    St m ρ K Fr c 14 4 5 ⊢ WP c (onBufs (k0_part12 (F := F)) c v2 v299 v300) Q := by
  unfold onBufs
  simp only [k0_part12_eq_skeleton]; unfold k0_part12_skel smemLoad smemLoadElt
  simp only [Prog.lift, Prog.bind_op, Prog.bind_ret, Prog.pure_eq_ret]
  refine step_recv (by decide) (by decide) (by decide) rfl ?_
  refine step_fwd (by decide) (by decide) (by decide) (Fin.ext (dev_eq c 14)) rfl (send_off c 14) rfl rfl ?_
  refine step_load_g rfl (load_off c 4) (step_load_w (step_load_ax (step_load_aw ?_)))
  exact wp_done h

/-- The tile of landing 4; landing 5 and its tile. -/
theorem part_13 {v2 v299} {Q : BitVec 32 → sProp (MT nD τ sig Unit (Elt F) ℕ UU ℕ)}
    (h : ∀ r, St m ρ K Fr c 15 6 7 ⊢ Q r) :
    St m ρ K Fr c 15 5 5 ⊢ WP c (onBufs (k0_part13 (F := F)) c v2 v299 (k0_pay8 (slab m ρ (R₀ c (recvOrd 4)) 160) (wstg m ρ c) (axv m ρ c) (awv m ρ c))) Q := by
  unfold onBufs
  simp only [k0_part13_eq_skeleton]; unfold k0_part13_skel smemLoad smemLoadElt
  simp only [Prog.lift, Prog.bind_op, Prog.bind_ret, Prog.pure_eq_ret]
  refine step_load_o fun _ => ?_
  refine step_store_160 (by decide) rfl (store_off c 4) rfl ?_
  refine step_recv (by decide) (by decide) (by decide) rfl ?_
  refine step_load_g rfl (load_off c 5) (step_load_w (step_load_ax (step_load_aw (step_load_o fun _ => ?_))))
  refine step_store_160 (by decide) rfl (store_off c 5) rfl ?_
  exact wp_done (h _)

/-- Landing 6; transfer 15. -/
theorem part_14 {v2 v360} {Q : (Σ' (a : BitVec 32), BitVec 32) → sProp (MT nD τ sig Unit (Elt F) ℕ UU ℕ)}
    (h : ∀ r, St m ρ K Fr c 16 7 7 ⊢ Q r) :
    St m ρ K Fr c 15 6 7 ⊢ WP c (onBufs (k0_part14 (F := F)) c v2 v360) Q := by
  unfold onBufs
  simp only [k0_part14_eq_skeleton]; unfold k0_part14_skel
  simp only [Prog.lift, Prog.bind_op, Prog.bind_ret, Prog.pure_eq_ret]
  refine step_recv (by decide) (by decide) (by decide) rfl ?_
  refine step_fwd (by decide) (by decide) (by decide) (Fin.ext (dev_eq c 15)) rfl (send_off c 15) rfl rfl ?_
  exact wp_done (h _)

/-- Transfer 16; the tile of landing 6. -/
theorem part_15 {v2 v361 v384} {Q : BitVec 32 → sProp (MT nD τ sig Unit (Elt F) ℕ UU ℕ)}
    (h : ∀ r, St m ρ K Fr c 17 7 8 ⊢ Q r) :
    St m ρ K Fr c 16 7 7 ⊢ WP c (onBufs (k0_part15 (F := F)) c v2 v361 v384) Q := by
  unfold onBufs
  simp only [k0_part15_eq_skeleton]; unfold k0_part15_skel smemLoad smemLoadElt
  simp only [Prog.lift, Prog.bind_op, Prog.bind_ret, Prog.pure_eq_ret]
  refine step_fwd (by decide) (by decide) (by decide) (Fin.ext (dev_eq c 16)) rfl (send_off c 16) rfl rfl ?_
  refine step_load_g rfl (load_off c 6) (step_load_w (step_load_ax (step_load_aw (step_load_o fun _ => ?_))))
  refine step_store_192 (by decide) rfl (store_off c 6) rfl ?_
  exact wp_done (h _)

/-- Landing 7, transfer 17, and landing 7's tile. -/
theorem part_16 {v2 v410} {Q : (Σ' (a : BitVec 32), BitVec 32) → sProp (MT nD τ sig Unit (Elt F) ℕ UU ℕ)}
    (h : ∀ r, St m ρ K Fr c 18 8 9 ⊢ Q r) :
    St m ρ K Fr c 17 7 8 ⊢ WP c (onBufs (k0_part16 (F := F)) c v2 v410) Q := by
  unfold onBufs
  simp only [k0_part16_eq_skeleton]; unfold k0_part16_skel smemLoad smemLoadElt
  simp only [Prog.lift, Prog.bind_op, Prog.bind_ret, Prog.pure_eq_ret]
  refine step_recv (by decide) (by decide) (by decide) rfl ?_
  refine step_fwd (by decide) (by decide) (by decide) (Fin.ext (dev_eq c 17)) rfl (send_off c 17) rfl rfl ?_
  refine step_load_g rfl (load_off c 7) (step_load_w (step_load_ax (step_load_aw (step_load_o fun _ => ?_))))
  refine step_store_192 (by decide) rfl (store_off c 7) rfl ?_
  exact wp_done (h _)

/-- Landing 8 and its tile. -/
theorem part_17 {v2 v445 k} {Q : (Σ' (a : BitVec 32), BitVec 32) → sProp (MT nD τ sig Unit (Elt F) ℕ UU ℕ)}
    (h : ∀ r, St m ρ K Fr c 18 9 10 ⊢ Q r) :
    St m ρ K Fr c 18 8 9 ⊢ WP c (onBufs (k0_part17 (F := F)) c v2 v445 k) Q := by
  unfold onBufs
  simp only [k0_part17_eq_skeleton]; unfold k0_part17_skel smemLoad smemLoadElt
  simp only [Prog.lift, Prog.bind_op, Prog.bind_ret, Prog.pure_eq_ret]
  refine step_recv (by decide) (by decide) (by decide) rfl ?_
  refine step_load_g rfl (load_off c 8) (step_load_w (step_load_ax (step_load_aw (step_load_o fun _ => ?_))))
  refine step_store_192 (by decide) rfl (store_off c 8) rfl ?_
  exact wp_done (h _)

/-- Landing 9, transfer 18, and the values of landing 9's tile. -/
theorem part_18 {v2 v472 v473} {Q : (FVec F S160x256 .f32) → sProp (MT nD τ sig Unit (Elt F) ℕ UU ℕ)}
    (h : St m ρ K Fr c 19 10 10 ⊢ Q (k0_pay13 (slab m ρ (R₀ c (recvOrd 9)) 160) (wstg m ρ c) (axv m ρ c) (awv m ρ c))) :
    St m ρ K Fr c 18 9 10 ⊢ WP c (onBufs (k0_part18 (F := F)) c v2 v472 v473) Q := by
  unfold onBufs
  simp only [k0_part18_eq_skeleton]; unfold k0_part18_skel smemLoad smemLoadElt
  simp only [Prog.lift, Prog.bind_op, Prog.bind_ret, Prog.pure_eq_ret]
  refine step_recv (by decide) (by decide) (by decide) rfl ?_
  refine step_fwd (by decide) (by decide) (by decide) (Fin.ext (dev_eq c 18)) rfl (send_off c 18) rfl rfl ?_
  refine step_load_g rfl (load_off c 9) (step_load_w (step_load_ax (step_load_aw ?_)))
  exact wp_done h

/-- The tile of landing 9; landing 10 and its tile. -/
theorem part_19 {v2} {Q : BitVec 32 → sProp (MT nD τ sig Unit (Elt F) ℕ UU ℕ)}
    (h : ∀ r, St m ρ K Fr c 19 11 12 ⊢ Q r) :
    St m ρ K Fr c 19 10 10 ⊢ WP c (onBufs (k0_part19 (F := F)) c v2 (k0_pay13 (slab m ρ (R₀ c (recvOrd 9)) 160) (wstg m ρ c) (axv m ρ c) (awv m ρ c))) Q := by
  unfold onBufs
  simp only [k0_part19_eq_skeleton]; unfold k0_part19_skel smemLoad smemLoadElt
  simp only [Prog.lift, Prog.bind_op, Prog.bind_ret, Prog.pure_eq_ret]
  refine step_load_o fun _ => ?_
  refine step_store_160 (by decide) rfl (store_off c 9) rfl ?_
  refine step_recv (by decide) (by decide) (by decide) rfl ?_
  refine step_load_g rfl (load_off c 10) (step_load_w (step_load_ax (step_load_aw (step_load_o fun _ => ?_))))
  refine step_store_160 (by decide) rfl (store_off c 10) rfl ?_
  exact wp_done (h _)

/-- Landing 11 and its tile. -/
theorem part_20 {v2 v534} {Q : (Σ' (a : BitVec 32), BitVec 32) → sProp (MT nD τ sig Unit (Elt F) ℕ UU ℕ)}
    (h : ∀ r, St m ρ K Fr c 19 12 13 ⊢ Q r) :
    St m ρ K Fr c 19 11 12 ⊢ WP c (onBufs (k0_part20 (F := F)) c v2 v534) Q := by
  unfold onBufs
  simp only [k0_part20_eq_skeleton]; unfold k0_part20_skel smemLoad smemLoadElt
  simp only [Prog.lift, Prog.bind_op, Prog.bind_ret, Prog.pure_eq_ret]
  refine step_recv (by decide) (by decide) (by decide) rfl ?_
  refine step_load_g rfl (load_off c 11) (step_load_w (step_load_ax (step_load_aw (step_load_o fun _ => ?_))))
  refine step_store_160 (by decide) rfl (store_off c 11) rfl ?_
  exact wp_done (h _)

/-- Landing 12 and its tile; landing 13. -/
theorem part_21 {v2 v559 v561} {Q : BitVec 32 → sProp (MT nD τ sig Unit (Elt F) ℕ UU ℕ)}
    (h : ∀ r, St m ρ K Fr c 19 14 14 ⊢ Q r) :
    St m ρ K Fr c 19 12 13 ⊢ WP c (onBufs (k0_part21 (F := F)) c v2 v559 v561) Q := by
  unfold onBufs
  simp only [k0_part21_eq_skeleton]; unfold k0_part21_skel smemLoad smemLoadElt
  simp only [Prog.lift, Prog.bind_op, Prog.bind_ret, Prog.pure_eq_ret]
  refine step_recv (by decide) (by decide) (by decide) rfl ?_
  refine step_load_g rfl (load_off c 12) (step_load_w (step_load_ax (step_load_aw (step_load_o fun _ => ?_))))
  refine step_store_160 (by decide) rfl (store_off c 12) rfl ?_
  refine step_recv (by decide) (by decide) (by decide) rfl ?_
  exact wp_done (h _)

/-- The tile of landing 13; landing 14. -/
theorem part_22 {v2 v584} {Q : (Σ' (a : BitVec 32), BitVec 32) → sProp (MT nD τ sig Unit (Elt F) ℕ UU ℕ)}
    (h : ∀ r, St m ρ K Fr c 19 15 15 ⊢ Q r) :
    St m ρ K Fr c 19 14 14 ⊢ WP c (onBufs (k0_part22 (F := F)) c v2 v584) Q := by
  unfold onBufs
  simp only [k0_part22_eq_skeleton]; unfold k0_part22_skel smemLoad smemLoadElt
  simp only [Prog.lift, Prog.bind_op, Prog.bind_ret, Prog.pure_eq_ret]
  refine step_load_g rfl (load_off c 13) (step_load_w (step_load_ax (step_load_aw (step_load_o fun _ => ?_))))
  refine step_store_160 (by decide) rfl (store_off c 13) rfl ?_
  refine step_recv (by decide) (by decide) (by decide) rfl ?_
  exact wp_done (h _)

/-- Transfer 19; the tile of landing 14. -/
theorem part_23 {v2 v609 v620} {Q : BitVec 32 → sProp (MT nD τ sig Unit (Elt F) ℕ UU ℕ)}
    (h : ∀ r, St m ρ K Fr c 20 15 16 ⊢ Q r) :
    St m ρ K Fr c 19 15 15 ⊢ WP c (onBufs (k0_part23 (F := F)) c v2 v609 v620) Q := by
  unfold onBufs
  simp only [k0_part23_eq_skeleton]; unfold k0_part23_skel smemLoad smemLoadElt
  simp only [Prog.lift, Prog.bind_op, Prog.bind_ret, Prog.pure_eq_ret]
  refine step_fwd (by decide) (by decide) (by decide) (Fin.ext (dev_eq c 19)) rfl (send_off c 19) rfl rfl ?_
  refine step_load_g rfl (load_off c 14) (step_load_w (step_load_ax (step_load_aw (step_load_o fun _ => ?_))))
  refine step_store_192 (by decide) rfl (store_off c 14) rfl ?_
  exact wp_done (h _)

/-- Landing 15 and its tile; landing 16. -/
theorem part_24 {v2 v646} {Q : (Σ' (a : BitVec 32), BitVec 32) → sProp (MT nD τ sig Unit (Elt F) ℕ UU ℕ)}
    (h : ∀ r, St m ρ K Fr c 20 17 17 ⊢ Q r) :
    St m ρ K Fr c 20 15 16 ⊢ WP c (onBufs (k0_part24 (F := F)) c v2 v646) Q := by
  unfold onBufs
  simp only [k0_part24_eq_skeleton]; unfold k0_part24_skel smemLoad smemLoadElt
  simp only [Prog.lift, Prog.bind_op, Prog.bind_ret, Prog.pure_eq_ret]
  refine step_recv (by decide) (by decide) (by decide) rfl ?_
  refine step_load_g rfl (load_off c 15) (step_load_w (step_load_ax (step_load_aw (step_load_o fun _ => ?_))))
  refine step_store_192 (by decide) rfl (store_off c 15) rfl ?_
  refine step_recv (by decide) (by decide) (by decide) rfl ?_
  exact wp_done (h _)

/-- Transfer 20; the tile of landing 16. -/
theorem part_25 {v2 v671 v680} {Q : (Σ' (a : BitVec 32), BitVec 32) → sProp (MT nD τ sig Unit (Elt F) ℕ UU ℕ)}
    (h : ∀ r, St m ρ K Fr c 21 17 18 ⊢ Q r) :
    St m ρ K Fr c 20 17 17 ⊢ WP c (onBufs (k0_part25 (F := F)) c v2 v671 v680) Q := by
  unfold onBufs
  simp only [k0_part25_eq_skeleton]; unfold k0_part25_skel smemLoad smemLoadElt
  simp only [Prog.lift, Prog.bind_op, Prog.bind_ret, Prog.pure_eq_ret]
  refine step_fwd (by decide) (by decide) (by decide) (Fin.ext (dev_eq c 20)) rfl (send_off c 20) rfl rfl ?_
  refine step_load_g rfl (load_off c 16) (step_load_w (step_load_ax (step_load_aw (step_load_o fun _ => ?_))))
  refine step_store_160 (by decide) rfl (store_off c 16) rfl ?_
  exact wp_done (h _)

/-- Landing 17 and its tile. -/
theorem part_26 {v2 v708 v709} {Q : BitVec 32 → sProp (MT nD τ sig Unit (Elt F) ℕ UU ℕ)}
    (h : ∀ r, St m ρ K Fr c 21 18 19 ⊢ Q r) :
    St m ρ K Fr c 21 17 18 ⊢ WP c (onBufs (k0_part26 (F := F)) c v2 v708 v709) Q := by
  unfold onBufs
  simp only [k0_part26_eq_skeleton]; unfold k0_part26_skel smemLoad smemLoadElt
  simp only [Prog.lift, Prog.bind_op, Prog.bind_ret, Prog.pure_eq_ret]
  refine step_recv (by decide) (by decide) (by decide) rfl ?_
  refine step_load_g rfl (load_off c 17) (step_load_w (step_load_ax (step_load_aw (step_load_o fun _ => ?_))))
  refine step_store_192 (by decide) rfl (store_off c 17) rfl ?_
  exact wp_done (h _)

/-- Landing 18 and its tile; landing 19, whose rows are read. -/
theorem part_27 {v2 v733} {Q : (Σ' (v758 : BitVec 32) (v767 : Vec F S160x4096 .fp8e4m3), FVec F S4096x256 .fp8e5m2) → sProp (MT nD τ sig Unit (Elt F) ℕ UU ℕ)}
    (h : ∀ r, St m ρ K Fr c 21 20 20 ⊢ Q ⟨r, slab m ρ (R₀ c (recvOrd 19)) 160, k0_pay23 (wstg m ρ c)⟩) :
    St m ρ K Fr c 21 18 19 ⊢ WP c (onBufs (k0_part27 (F := F)) c v2 v733) Q := by
  unfold onBufs
  simp only [k0_part27_eq_skeleton]; unfold k0_part27_skel smemLoad smemLoadElt
  simp only [Prog.lift, Prog.bind_op, Prog.bind_ret, Prog.pure_eq_ret]
  refine step_recv (by decide) (by decide) (by decide) rfl ?_
  refine step_load_g rfl (load_off c 18) (step_load_w (step_load_ax (step_load_aw (step_load_o fun _ => ?_))))
  refine step_store_160 (by decide) rfl (store_off c 18) rfl ?_
  refine step_recv (by decide) (by decide) (by decide) rfl ?_
  refine step_load_g rfl (load_off c 19) (step_load_w ?_)
  exact wp_done (h _)

/-- The tile of landing 19; landing 20 and its tile's values. -/
theorem part_28 {v2 v758} {Q : (Σ' (v783 : BitVec 32) (v800 : FVec F S192x256 .f32), F .f32) → sProp (MT nD τ sig Unit (Elt F) ℕ UU ℕ)}
    (h : ∀ r, St m ρ K Fr c 21 21 21 ⊢ Q ⟨r, k0_pay25 (slab m ρ (R₀ c (recvOrd 20)) 192) (wstg m ρ c) (axv m ρ c) (awv m ρ c), Scalar.ofBits .f32 0x00000000#32⟩) :
    St m ρ K Fr c 21 20 20 ⊢ WP c (onBufs (k0_part28 (F := F)) c v2 v758 (slab m ρ (R₀ c (recvOrd 19)) 160) (k0_pay23 (wstg m ρ c))) Q := by
  unfold onBufs
  simp only [k0_part28_eq_skeleton]; unfold k0_part28_skel smemLoad smemLoadElt
  simp only [Prog.lift, Prog.bind_op, Prog.bind_ret, Prog.pure_eq_ret]
  refine step_load_ax (step_load_aw (step_load_o fun _ => ?_))
  refine step_store_160 (by decide) rfl (store_off c 19) rfl ?_
  refine step_recv (by decide) (by decide) (by decide) rfl ?_
  refine step_load_g rfl (load_off c 20) (step_load_w (step_load_ax (step_load_aw ?_)))
  exact wp_done (h _)

/-- All transfers started and all landings taken: the state the completions are waited for in. -/
theorem to_waits {G : sProp (MT nD τ sig Unit (Elt F) ℕ UU ℕ)} :
    St m ρ K (iprop((bigSep used fun x => atPos ER (sendCell c x) 0 ∅ 0) ∗ G)) c 21 21 22
      ⊢ St₂ m ρ K (iprop(bigSep (Finset.range 21) (done m ρ c) ∗ mem m ρ c 22 ∗ G)) c 0 := by
  unfold St St₂ com owed
  rw [Finset.range_eq_Ico, bigSep_sep', ← Finset.range_eq_Ico, ← bigSep_waitOrd fun x => atPos ER (sendCell c x) 0 ∅ 0, ← bigSep_waitOrd (sent c),
    ← bigSep_sendOrd (sent c)]
  iintro ⟨HK, ⟨HO, HP, HS, HT, HD, HC⟩, HM, HA, HG⟩
  isplitl [HK]
  · iexact HK
  isplitl [HO]
  · iexact HO
  isplitl [HA HC]
  · isplitl [HA]
    · iexact HA
    · iexact HC
  rw [Finset.range_zero, bigSep_empty]
  isplitl []
  · iempintro
  isplitl [HD]
  · iexact HD
  isplitl [HM]
  · iexact HM
  · iexact HG

/-- The tile of landing 20; completions 0 and 1. -/
theorem part_29 {v2 v783} {G : sProp (MT nD τ sig Unit (Elt F) ℕ UU ℕ)} {Q : PUnit → sProp (MT nD τ sig Unit (Elt F) ℕ UU ℕ)}
    (h : St₂ m ρ K (iprop(bigSep (Finset.range 21) (done m ρ c) ∗ mem m ρ c 22 ∗ G)) c 2 ⊢ Q ⟨⟩) :
    St m ρ K (iprop((bigSep used fun x => atPos ER (sendCell c x) 0 ∅ 0) ∗ G)) c 21 21 21 ⊢ WP c (onBufs (k0_part29 (F := F)) c v2 v783
      (k0_pay25 (slab m ρ (R₀ c (recvOrd 20)) 192) (wstg m ρ c) (axv m ρ c) (awv m ρ c)) (Scalar.ofBits .f32 0x00000000#32)) Q := by
  unfold onBufs
  simp only [k0_part29_eq_skeleton]; unfold k0_part29_skel
  simp only [Prog.lift, Prog.bind_op, Prog.bind_ret, Prog.pure_eq_ret]
  refine step_load_o fun _ => ?_
  refine step_store_192 (by decide) rfl (store_off c 20) rfl ?_
  refine to_waits.trans ?_
  refine step_wait (by decide) (by decide) rfl ?_
  refine step_wait (by decide) (by decide) rfl ?_
  exact wp_done h

/-- Completions 2 to 4. -/
theorem part_30 {v2} {Q : BitVec 32 → sProp (MT nD τ sig Unit (Elt F) ℕ UU ℕ)}
    (h : ∀ r, St₂ m ρ K Fr c 5 ⊢ Q r) :
    St₂ m ρ K Fr c 2 ⊢ WP c (onBufs (k0_part30 (F := F)) c v2) Q := by
  unfold onBufs
  simp only [k0_part30_eq_skeleton]; unfold k0_part30_skel
  simp only [Prog.lift, Prog.bind_op, Prog.bind_ret, Prog.pure_eq_ret]
  refine step_wait (by decide) (by decide) rfl ?_
  refine step_wait (by decide) (by decide) rfl ?_
  refine step_wait (by decide) (by decide) rfl ?_
  exact wp_done (h _)

/-- Completions 5 and 6. -/
theorem part_31 {v2 k} {Q : PUnit → sProp (MT nD τ sig Unit (Elt F) ℕ UU ℕ)}
    (h : St₂ m ρ K Fr c 7 ⊢ Q ⟨⟩) :
    St₂ m ρ K Fr c 5 ⊢ WP c (onBufs (k0_part31 (F := F)) c v2 k) Q := by
  unfold onBufs
  simp only [k0_part31_eq_skeleton]; unfold k0_part31_skel
  simp only [Prog.lift, Prog.bind_op, Prog.bind_ret, Prog.pure_eq_ret]
  refine step_wait (by decide) (by decide) rfl ?_
  refine step_wait (by decide) (by decide) rfl ?_
  exact wp_done h

/-- Completions 7 to 9. -/
theorem part_32 {v2} {Q : PUnit → sProp (MT nD τ sig Unit (Elt F) ℕ UU ℕ)}
    (h : St₂ m ρ K Fr c 10 ⊢ Q ⟨⟩) :
    St₂ m ρ K Fr c 7 ⊢ WP c (onBufs (k0_part32 (F := F)) c v2) Q := by
  unfold onBufs
  simp only [k0_part32_eq_skeleton]; unfold k0_part32_skel
  simp only [Prog.lift, Prog.bind_op, Prog.bind_ret, Prog.pure_eq_ret]
  refine step_wait (by decide) (by decide) rfl ?_
  refine step_wait (by decide) (by decide) rfl ?_
  refine step_wait (by decide) (by decide) rfl ?_
  exact wp_done h

/-- Completions 10 to 12. -/
theorem part_33 {v2} {Q : BitVec 32 → sProp (MT nD τ sig Unit (Elt F) ℕ UU ℕ)}
    (h : ∀ r, St₂ m ρ K Fr c 13 ⊢ Q r) :
    St₂ m ρ K Fr c 10 ⊢ WP c (onBufs (k0_part33 (F := F)) c v2) Q := by
  unfold onBufs
  simp only [k0_part33_eq_skeleton]; unfold k0_part33_skel
  simp only [Prog.lift, Prog.bind_op, Prog.bind_ret, Prog.pure_eq_ret]
  refine step_wait (by decide) (by decide) rfl ?_
  refine step_wait (by decide) (by decide) rfl ?_
  refine step_wait (by decide) (by decide) rfl ?_
  exact wp_done (h _)

/-- Completions 13 and 14. -/
theorem part_34 {v2 v909} {Q : PUnit → sProp (MT nD τ sig Unit (Elt F) ℕ UU ℕ)}
    (h : St₂ m ρ K Fr c 15 ⊢ Q ⟨⟩) :
    St₂ m ρ K Fr c 13 ⊢ WP c (onBufs (k0_part34 (F := F)) c v2 v909) Q := by
  unfold onBufs
  simp only [k0_part34_eq_skeleton]; unfold k0_part34_skel
  simp only [Prog.lift, Prog.bind_op, Prog.bind_ret, Prog.pure_eq_ret]
  refine step_wait (by decide) (by decide) rfl ?_
  refine step_wait (by decide) (by decide) rfl ?_
  exact wp_done h

/-- Completions 15 to 17. -/
theorem part_35 {v2} {Q : PUnit → sProp (MT nD τ sig Unit (Elt F) ℕ UU ℕ)}
    (h : St₂ m ρ K Fr c 18 ⊢ Q ⟨⟩) :
    St₂ m ρ K Fr c 15 ⊢ WP c (onBufs (k0_part35 (F := F)) c v2) Q := by
  unfold onBufs
  simp only [k0_part35_eq_skeleton]; unfold k0_part35_skel
  simp only [Prog.lift, Prog.bind_op, Prog.bind_ret, Prog.pure_eq_ret]
  refine step_wait (by decide) (by decide) rfl ?_
  refine step_wait (by decide) (by decide) rfl ?_
  refine step_wait (by decide) (by decide) rfl ?_
  exact wp_done h

/-- One program after another. -/
theorem seq {α β : Type} {P : sProp (MT nD τ sig Unit (Elt F) ℕ UU ℕ)} {p : Prog (TpuEff nD τ sig (Elt F) Λ₀ .tc) α}
    {k : α → Prog (TpuEff nD τ sig (Elt F) Λ₀ .tc) β} {Q : β → sProp (MT nD τ sig Unit (Elt F) ℕ UU ℕ)} (h : P ⊢ WP c p fun a => WP c (k a) Q) :
    P ⊢ WP c (p >>= k) Q := by
  unfold WP at h ⊢
  rw [wp_bind]
  exact h

/-- The body after its first part, which is walked apart: from the state with nothing started to the state with every landing and completion
    waited for. -/
theorem walk {P G : sProp (MT nD τ sig Unit (Elt F) ℕ UU ℕ)} {Q : PUnit → sProp (MT nD τ sig Unit (Elt F) ℕ UU ℕ)}
    (h₁ : ∀ {Q' : (Σ' (d0 : Dev nD), BitVec 32) → sProp (MT nD τ sig Unit (Elt F) ℕ UU ℕ)},
      (∀ v2, St m ρ K (iprop((bigSep used fun x => atPos ER (sendCell c x) 0 ∅ 0) ∗ G)) c 0 0 0 ⊢ Q' ⟨c, v2⟩) → P ⊢ WP c (onBufs (k0_part1 (F := F))) Q')
    (h : St₂ m ρ K (iprop(bigSep (Finset.range 21) (done m ρ c) ∗ mem m ρ c 22 ∗ G)) c 21 ⊢ Q ⟨⟩) :
    P ⊢ WP c (onBufs (cc0_body (F := F))) Q := by
  unfold onBufs
  simp only [cc0_body_eq_skeleton]; unfold cc0_body_skel
  simp only [k0_part36_eq_skeleton]; unfold k0_part36_skel
  refine seq (seq (h₁ fun v2 => ?_))
  refine seq (part_2 fun _ => ?_)
  refine seq (part_3 ?_)
  refine seq (part_4 fun _ => ?_)
  refine seq (part_5 fun _ => ?_)
  refine seq (part_6 fun _ => ?_)
  refine seq (part_7 fun _ => ?_)
  refine seq (part_8 fun _ => ?_)
  refine seq (part_9 ?_)
  refine seq (part_10 fun _ => ?_)
  refine seq (part_11 fun _ => ?_)
  refine seq (part_12 ?_)
  refine seq (part_13 fun _ => ?_)
  refine seq (part_14 fun _ => ?_)
  refine seq (part_15 fun _ => ?_)
  refine seq (part_16 fun _ => ?_)
  refine seq (part_17 fun _ => ?_)
  refine seq (part_18 ?_)
  refine seq (part_19 fun _ => ?_)
  refine seq (part_20 fun _ => ?_)
  refine seq (part_21 fun _ => ?_)
  refine seq (part_22 fun _ => ?_)
  refine seq (part_23 fun _ => ?_)
  refine seq (part_24 fun _ => ?_)
  refine seq (part_25 fun _ => ?_)
  refine seq (part_26 fun _ => ?_)
  refine seq (part_27 fun _ => ?_)
  refine seq (part_28 fun _ => ?_)
  refine seq (part_29 ?_)
  refine seq (part_30 fun _ => ?_)
  refine seq (part_31 ?_)
  refine seq (part_32 ?_)
  refine seq (part_33 fun _ => ?_)
  refine seq (part_34 ?_)
  refine seq (part_35 ?_)
  simp only [Prog.lift, Prog.bind_op, Prog.bind_ret, Prog.pure_eq_ret]
  refine step_wait (by decide) (by decide) rfl ?_
  refine wp_done ?_
  refine step_wait (by decide) (by decide) rfl ?_
  refine step_wait (by decide) (by decide) rfl ?_
  exact wp_done h

end Walk

end Cert.Gather

end
-- ==== Proof.Body.lean ====
/-
# The whole body

The handshake on the barrier, the walk, the closing of every semaphore cell, and the library's obligation on the body.
-/
module

public import proofs.«01_k».proof.Proof.Walk
public import proofs.«01_k».proof.Proof.Gen.KernelIdeal.Points

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## A device's cells -/

/-- The transfer numbers of the list that no transfer has. -/
def unused : Finset X := Finset.univ.filter fun x => x ∉ used
theorem not_used {x : X} (h : x ∈ unused) : x ∉ used := (Finset.mem_filter.mp h).2

/-- Every number is a transfer's or not. -/
theorem used_split (Φ : X → sProp 𝕄) : bigSep Finset.univ Φ = iprop(bigSep used Φ ∗ bigSep unused Φ) := by
  rw [← bigSep_or (Finset.disjoint_left.mpr fun x h h' => not_used h' h)]
  exact congrArg (fun s => bigSep s Φ) (by decide +kernel)

/-- A device's cells: its barrier, its send cells, its receive cells. -/
theorem cells_split (Φ : Fin 73 → sProp 𝕄) :
    bigSep Finset.univ Φ = iprop(Φ 0 ∗ (bigSep Finset.univ fun x => Φ (kS x)) ∗ bigSep Finset.univ fun x => Φ (kR x)) := by
  rw [bigSep_univ_at Φ 0]
  refine congrArg _ ?_
  have hs : Set.InjOn kS ((Finset.univ : Finset X) : Set X) := fun a _ b _ h => Fin.ext (by have := congrArg Fin.val h; unfold kS at this; simp only at this; omega)
  have hr : Set.InjOn kR ((Finset.univ : Finset X) : Set X) := fun a _ b _ h => Fin.ext (by have := congrArg Fin.val h; unfold kR at this; simp only at this; omega)
  rw [← bigSep_image_of_injOn hs, ← bigSep_image_of_injOn hr, ← bigSep_or (by decide +kernel)]
  exact congrArg (fun s => bigSep s Φ) (by decide +kernel)

/-- The transfers of each direction are all of them. -/
theorem by_dir (Φ : X → sProp 𝕄) : bigSep used Φ = bigSep Finset.univ fun g : Fin 3 => bigSep (used.filter (dn · = g)) Φ := by
  rw [bigSep_fiberwise used dn Φ]
  exact congrArg (fun s => bigSep s fun g : Fin 3 => bigSep (used.filter (dn · = g)) Φ) (by decide +kernel)

theorem bigSep_fin3 (Φ : Fin 3 → sProp 𝕄) : bigSep Finset.univ Φ = iprop(Φ 0 ∗ Φ 1 ∗ Φ 2) := bigSep_univ_eq_bigSepL [0, 1, 2] (by decide) (by decide) Φ

/-- What `c` gives its neighbours with its signals: its own rows that they will write. -/
theorem give (c : Dev nD) :
    (bigSep used fun x => iprop(∃ f, region (F := F) c x fullShare f))
      = iprop(barPay (F := F) (bx c (dir 0)) 0 ∗ barPay (F := F) (bx c (dir 1)) 1 ∗ barPay (F := F) (bx c (dir 2)) 2) := by
  rw [by_dir, bigSep_fin3]
  unfold barPay
  rw [bx_dir, bx_dir, bx_dir]
/-- What `c` gets at its wait: the rows of its neighbours that it will write. -/
theorem take (c : Dev nD) :
    (bigSep Finset.univ fun g => barPay (F := F) c g) = bigSep used fun x => iprop(∃ f, region (F := F) (bx c (tg x)) x fullShare f) := by
  rw [by_dir]
  refine bigSep_congr fun g _ => ?_
  unfold barPay
  refine bigSep_congr fun x hx => ?_
  rw [show tg x = dir g from congrArg dir (Finset.mem_filter.mp hx).2]

/-! ## The handshake -/

/-- Before the handshake. -/
def ready (K : Dev nD × Fin 73 → ℕ) (c : Dev nD) (R : sProp 𝕄) : sProp 𝕄 :=
  iprop(know m ρ K ∗ (∃ W, owes (c : Thread nD τ) (O₀ c) W) ∗ atPos ER (barCell c) 0 ∅ 0 ∗ cred (tallyAt (barCell c) () 3)
    ∗ (bigSep Finset.univ fun g : Fin 3 => dutyTok ER (barCell (bx c (dir g))) 0 g)
    ∗ (bigSep used fun x => iprop(∃ f, region (F := F) c x fullShare f)) ∗ R)
/-- After it. -/
def met (K : Dev nD × Fin 73 → ℕ) (c : Dev nD) (R : sProp 𝕄) : sProp 𝕄 :=
  iprop(know m ρ K ∗ (∃ W, owes (c : Thread nD τ) (Orest c 0) W) ∗ atPos ER (barCell c) 1 ∅ 0
    ∗ (bigSep used fun x => iprop(∃ f, region (F := F) (bx c (tg x)) x fullShare f)) ∗ R)

section Handshake

variable {m ρ}
variable {K : Dev nD × Fin 73 → ℕ} {c : Dev nD}

/-- One signal: a unit less owed, the duty's token and its payload given. -/
theorem step_signal {α : Type} {Q : α → sProp (MT nD τ sig Unit (Elt F) ℕ UU ℕ)} {g : Fin 3} {d : Dev nD} (hd : d = bx c (dir g)) {O O' : CellTallies nD τ sig Unit}
    (hO : O = O' + tallyAt (barCell (bx c (dir g))) () 1) {R : sProp (MT nD τ sig Unit (Elt F) ℕ UU ℕ)} {n : ℕ} (hn : n = 1)
    {k : PUnit → Prog (TpuEff nD τ sig (Elt F) Λ₀ .tc) α}
    (h : iprop(know m ρ K ∗ (∃ W, owes (c : Thread nD τ) O' W) ∗ R) ⊢ WP c (k ⟨⟩) Q) :
    iprop(know m ρ K ∗ (∃ W, owes (c : Thread nD τ) O W) ∗ dutyTok ER (barCell (bx c (dir g))) 0 g ∗ barPay (F := F) (bx c (dir g)) g ∗ R)
      ⊢ WP c (.op (.semSignal (Dev.tc d : Thread nD τ) barS n) k) Q := by
  subst hd hn
  unfold know
  iintro ⟨⟨#HR, #HL⟩, ⟨%W, HO⟩, Ht, Hp, HF⟩
  ihave HrB := (records_bar m ρ K (bx c (dir g))) $$ HR
  icases HrB with ⟨#HIB, #HrB⟩
  iapply (Rounds.wp_signal 𝒱₀ ER (Rd m ρ) (c : Thread nD τ) none (dst := (bx c (dir g) : Thread nD τ)) (κ := K (bx c (dir g), 0))
      (d := g) (by rw [duties_bar]; exact Finset.mem_univ _) (amount_bar m ρ (bx c (dir g)) g) () O' hO) $$ [HO Ht Hp]
  · isplitr; · iexact HIB
    isplitl [HO]; · iexact HO
    isplitl [Ht]; · iexact Ht
    isplitl [Hp]; · rw [payload_bar]; iexact Hp
    iexact HrB
  iintro HO
  iapply h
  isplitr
  · unfold know
    isplitr; · iexact HR
    iexact HL
  isplitl [HO]; · iexists _; iexact HO
  iexact HF

theorem part_1 {R : sProp (MT nD τ sig Unit (Elt F) ℕ UU ℕ)} {Q : (Σ' (d0 : Dev nD), BitVec 32) → sProp (MT nD τ sig Unit (Elt F) ℕ UU ℕ)}
    (h : ∀ v2, met m ρ K c R ⊢ Q ⟨c, v2⟩) : ready m ρ K c R ⊢ WP c (onBufs (k0_part1 (F := F))) Q := by
  unfold onBufs WP
  simp only [k0_part1_eq_skeleton]; unfold k0_part1_skel
  simp only [semSignalWord, semWaitWord, Prog.lift, Prog.bind_op, Prog.bind_ret, Prog.pure_eq_ret, wp_deviceId]
  refine BIBase.Entails.trans (Q := iprop(know m ρ K ∗ (∃ W, owes (c : Thread nD τ) (O₀ c) W) ∗ dutyTok ER (barCell (bx c (dir 0))) 0 0 ∗ barPay (F := F) (bx c (dir 0)) 0
      ∗ dutyTok ER (barCell (bx c (dir 1))) 0 1 ∗ barPay (F := F) (bx c (dir 1)) 1 ∗ dutyTok ER (barCell (bx c (dir 2))) 0 2 ∗ barPay (F := F) (bx c (dir 2)) 2
      ∗ atPos ER (barCell c) 0 ∅ 0 ∗ cred (tallyAt (barCell c) () 3) ∗ R)) ?_
    (step_signal (g := 0) (O' := O₁ c) (Fin.ext (bar_eq c 0)) rfl rfl <| step_signal (g := 1) (O' := O₂ c) (Fin.ext (bar_eq c 1)) rfl rfl <|
      step_signal (g := 2) (O' := Orest c 0) (Fin.ext (bar_eq c 2)) rfl rfl ?_)
  · unfold ready
    rw [give, bigSep_fin3]
    iintro ⟨HK, HO, Ha, Hc, ⟨H0, H1, H2⟩, ⟨P0, P1, P2⟩, HF⟩
    isplitl [HK]; · iexact HK
    isplitl [HO]; · iexact HO
    isplitl [H0]; · iexact H0
    isplitl [P0]; · iexact P0
    isplitl [H1]; · iexact H1
    isplitl [P1]; · iexact P1
    isplitl [H2]; · iexact H2
    isplitl [P2]; · iexact P2
    isplitl [Ha]; · iexact Ha
    isplitl [Hc]; · iexact Hc
    iexact HF
  · unfold know
    iintro ⟨⟨#HR, #HL⟩, ⟨%W, HO⟩, Hat, Hcr, HF⟩
    ihave HrB := (records_bar m ρ K c) $$ HR
    icases HrB with ⟨#HIB, -⟩
    iapply (Rounds.wp_wait_rest_token 𝒱₀ ER (Rd m ρ) (c : Thread nD τ) none (κ := K (c, 0))
        (wpE_semWait_eq 𝒱₀ (c : Thread nD τ) none Set.univ) (Set.mem_univ _) () (O := Orest c 0) (W := W) (R := 0) (m := 0) (T := ∅)
        (by rw [expect_bar]; decide)) $$ [Hcr HO Hat]
    · isplitr; · iexact HIB
      isplitl [Hcr]; · iexact Hcr
      isplitl [HO]; · iexact HO
      isplitr; · iapply (mayWait_bar c 0); iexact HL
      iexact Hat
    iintro ⟨HO, Hat, -, Hpay⟩
    ihave Hpay := (Entails.of_eq ((rest_bar m ρ c).trans (take c))) $$ Hpay
    iapply (wp_done (h _))
    unfold met know
    isplitr
    · isplitr; · iexact HR
      iexact HL
    isplitl [HO]; · iexists _; iexact HO
    isplitl [Hat]; · iexact Hat
    isplitl [Hpay]; · iexact Hpay
    iexact HF

end Handshake

/-! ## Into the walk and out of it -/

/-- The positions on the cells no transfer uses. -/
def idle (c : Dev nD) : sProp 𝕄 :=
  iprop((bigSep unused fun x => atPos ER (sendCell c x) 0 ∅ 0) ∗ bigSep unused fun x => atPos ER (recvCell c x) 0 ∅ 0)
/-- The rows of the gather buffer that hold `c`'s own block, which nothing writes. -/
def spare (c : Dev nD) : sProp 𝕄 := iprop(∃ f, (c : Thread nD τ).loc cc0_scratch0 ↦[ownRows c]{fullShare} f)
/-- What the walk leaves alone. -/
def kept (c : Dev nD) : sProp 𝕄 := iprop(atPos ER (barCell c) 1 ∅ 0 ∗ spare (F := F) c ∗ idle (F := F) c)
/-- The duties of `c`'s transfers. -/
def payToks (c : Dev nD) : sProp 𝕄 :=
  bigSep used fun x => iprop(dutyTok ER (sendCell c x) 0 0 ∗ dutyTok ER (recvCell (bx c (tg x)) x) 0 0)
/-- The inputs as staged. -/
def staged (c : Dev nD) : sProp 𝕄 :=
  iprop(((c : Thread nD τ).loc cc0_stg0_0 ↦{fullShare} xstg m ρ c) ∗ ((c : Thread nD τ).loc cc0_stg1_0 ↦{fullShare} wstg m ρ c)
    ∗ ((c : Thread nD τ).loc cc0_stg2_0 ↦{fullShare} axstg m ρ c) ∗ ((c : Thread nD τ).loc cc0_stg3_0 ↦{fullShare} awstg m ρ c))
/-- What the handshake leaves alone. -/
def later (c : Dev nD) : sProp 𝕄 :=
  iprop((bigSep used fun x => atPos ER (sendCell c x) 0 ∅ 0)
    ∗ (bigSep used fun x => iprop(atPos ER (recvCell c x) 0 ∅ 0 ∗ cred (tallyAt (recvCell c x) () (amt x))))
    ∗ payToks (F := F) c ∗ idle (F := F) c ∗ spare (F := F) c ∗ staged m ρ c ∗ ∃ f, (c : Thread nD τ).loc cc0_stg4_0 ↦{fullShare} f)

theorem pend_all (c : Dev nD) :
    bigSep (Finset.Ico 0 21) (pend (F := F) c)
      = iprop((bigSep used fun x => iprop(∃ f, region (F := F) (bx c (tg x)) x fullShare f)) ∗ payToks (F := F) c) := by
  unfold payToks
  rw [← bigSep_sep', bigSep_sendOrd, Finset.range_eq_Ico]
  rfl
theorem todo_all (c : Dev nD) :
    bigSep (Finset.Ico 0 21) (todo (F := F) c)
      = bigSep used fun x => iprop(atPos ER (recvCell c x) 0 ∅ 0 ∗ cred (tallyAt (recvCell c x) () (amt x))) := by
  rw [bigSep_recvOrd, Finset.range_eq_Ico]
  rfl

/-- After the handshake the walk can start. -/
theorem met_start (K : Dev nD × Fin 73 → ℕ) (c : Dev nD) :
    met m ρ K c (later m ρ c) ⊢ St m ρ K (iprop((bigSep used fun x => atPos ER (sendCell c x) 0 ∅ 0) ∗ kept (F := F) c)) c 0 0 0 := by
  unfold met later St com mem staged kept
  rw [pend_all, todo_all, x_split, show avail 0 = 9 from rfl, Finset.range_zero, bigSep_empty, bigSep_empty]
  iintro ⟨HK, HO, Hb, Hreg, Hs, Hr, Ht, Hi, Hsp, ⟨⟨Hx, Hsrc⟩, Hw, Hax, Haw⟩, ⟨%f, Hout⟩⟩
  isplitl [HK]; · iexact HK
  isplitl [HO Hreg Ht Hsrc Hr]
  · isplitl [HO]; · iexact HO
    isplitl [Hreg Ht]
    · isplitl [Hreg]; · iexact Hreg
      iexact Ht
    isplitl [Hsrc]; · iexact Hsrc
    isplitl [Hr]; · iexact Hr
    isplitl []; · iempintro
    iempintro
  isplitl [Hx Hw Hax Haw Hout]
  · isplitl [Hx]; · iexact Hx
    isplitl [Hw]; · iexact Hw
    isplitl [Hax]; · iexact Hax
    isplitl [Haw]; · iexact Haw
    iexists f
    isplitr
    · ipureintro; exact fun p hp => absurd hp (stored_zero c p)
    iexact Hout
  isplitl [Hs]; · iexact Hs
  isplitl [Hb]; · iexact Hb
  isplitl [Hsp]; · iexact Hsp
  iexact Hi

/-! ### Closing the cells -/

/-- With the records at hand, one update each makes one update of all. -/
theorem with_records {K : Dev nD × Fin 73 → ℕ} {S : Finset X} {Φ Ψ : X → sProp 𝕄} (h : ∀ x ∈ S, iprop(records m ρ K ∗ Φ x) ⊢ |={Set.univ}=> Ψ x) :
    iprop(records m ρ K ∗ bigSep S Φ) ⊢ |={Set.univ}=> bigSep S Ψ :=
  ((sep_mono_left (BI.bigSep_of_persistent S (records m ρ K))).trans (by rw [← bigSep_sep']; exact bigSep_mono h)).trans (bigSep_fupd _ _)

/-- A cell with no duty from round `r` on, at round `r`, is closed: its counter at zero is the core's. -/
theorem close_cell (K : Dev nD × Fin 73 → ℕ) (ck : Dev nD × Fin 73) {g : GSem nD τ sig} (hg : kcell ck = g) {r : ℕ}
    (hr : ∀ r', r ≤ r' → (Rd (F := F) m ρ).duties g r' = ∅) :
    iprop(records m ρ K ∗ atPos ER g r ∅ 0) ⊢ (|={Set.univ}=> semVal (kcell ck) 0 : sProp 𝕄) := by
  subst hg
  unfold records
  iintro ⟨⟨#HI, -⟩, Hat⟩
  ihave Hc := (inv_at m ρ K ck) $$ HI
  imod (Rounds.cell_close ER (Rd m ρ) (Set.mem_univ (K ck)) (fun h => h) (R := r) hr) $$ [Hc Hat] with Hz
  · isplitl [Hc]; · iexact Hc
    iexact Hat
  imodintro
  iexact Hz

/-- Every cell of `c` is closed. -/
theorem close_all (K : Dev nD × Fin 73 → ℕ) (c : Dev nD) :
    iprop(records m ρ K ∗ atPos ER (barCell c) 1 ∅ 0 ∗ (bigSep used fun x => atPos ER (sendCell c x) 1 ∅ 0) ∗ (bigSep used fun x => atPos ER (recvCell c x) 1 ∅ 0) ∗ idle (F := F) c)
      ⊢ (|={Set.univ}=> bigSep Finset.univ fun k => semVal (kcell (c, k)) 0 : sProp 𝕄) := by
  unfold idle
  rw [cells_split, used_split, used_split fun x => semVal (kcell (c, kR x)) 0]
  iintro ⟨#HR, Hb, Hs, Hr, Hus, Hur⟩
  imod (close_cell m ρ K (c, 0) (kcell_bar c) (duties_later m ρ (barCell c))) $$ [Hb] with Zb
  · isplitr; · iexact HR
    iexact Hb
  imod (with_records m ρ fun x _ => close_cell m ρ K (c, kS x) (kcell_send c x) (duties_later m ρ (sendCell c x))) $$ [Hs] with Zs
  · isplitr; · iexact HR
    iexact Hs
  imod (with_records m ρ fun x _ => close_cell m ρ K (c, kR x) (kcell_recv c x) (duties_later m ρ (recvCell c x))) $$ [Hr] with Zr
  · isplitr; · iexact HR
    iexact Hr
  imod (with_records m ρ fun x hx => close_cell m ρ K (c, kS x) (kcell_send c x) fun r _ => duties_send_not m ρ c x (not_used hx) r) $$ [Hus] with Zus
  · isplitr; · iexact HR
    iexact Hus
  imod (with_records m ρ fun x hx => close_cell m ρ K (c, kR x) (kcell_recv c x) fun r _ => duties_recv_not m ρ c x (not_used hx) r) $$ [Hur] with Zur
  · isplitr; · iexact HR
    iexact Hur
  imodintro
  isplitl [Zb]; · iexact Zb
  isplitl [Zs Zus]
  · isplitl [Zs]; · iexact Zs
    iexact Zus
  isplitl [Zr]; · iexact Zr
  iexact Zur

/-- All completions waited for: the sources, by the order of starting. -/
theorem back_all (c : Dev nD) :
    bigSep (Finset.range 21) (fun n => back m ρ c (waitOrd n))
      = iprop((bigSep used fun x => atPos ER (sendCell c x) 1 ∅ 0)
        ∗ (bigSep (Finset.Ico 0 9) fun n => source m ρ c (sendOrd n)) ∗ bigSep (Finset.Ico 9 21) fun n => source m ρ c (sendOrd n)) := by
  rw [← bigSep_or (by decide), show Finset.Ico 0 9 ∪ Finset.Ico 9 21 = Finset.range 21 from by decide, ← bigSep_sendOrd (source m ρ c), ← bigSep_sep', bigSep_waitOrd]
  rfl
/-- All landings taken: the positions, and what is left of the pieces. -/
theorem done_all (c : Dev nD) :
    bigSep (Finset.range 21) (done m ρ c)
      = iprop((bigSep used fun x => atPos ER (recvCell c x) 1 ∅ 0) ∗ bigSep (Finset.range 21) fun n => rest m ρ c n) := by
  rw [bigSep_recvOrd, ← bigSep_sep']
  rfl

/-- What a device holds at the end. -/
def ended (c : Dev nD) : sProp 𝕄 :=
  iprop((∃ W, owes (c : Thread nD τ) 0 W) ∗ staged m ρ c ∗ ((c : Thread nD τ).loc cc0_stg4_0 ↦{fullShare} outF m ρ c)
    ∗ (∃ g, (c : Thread nD τ).loc cc0_scratch0 ↦{fullShare} g) ∗ bigSep Finset.univ fun k => semVal (kcell (c, k)) 0)

theorem walk_end (K : Dev nD × Fin 73 → ℕ) (c : Dev nD) :
    St₂ m ρ K (iprop(bigSep (Finset.range 21) (done m ρ c) ∗ mem m ρ c 22 ∗ kept (F := F) c)) c 21 ⊢ |={Set.univ}=> ended m ρ c := by
  unfold St₂ mem kept spare know
  rw [back_all, done_all]
  iintro ⟨⟨#HR, -⟩, HO, -, ⟨Hs, Hfst, Hfwd⟩, ⟨Hr, Hrest⟩, ⟨Hx, Hw, Hax, Haw, ⟨%f, %hf, Hout⟩⟩, Hb, ⟨%f₀, Hsp⟩, Hi⟩
  imod (close_all m ρ K c) $$ [Hb Hs Hr Hi] with Hz
  · isplitr; · iexact HR
    isplitl [Hb]; · iexact Hb
    isplitl [Hs]; · iexact Hs
    isplitl [Hr]; · iexact Hr
    iexact Hi
  have hout : f = outF m ρ c := funext fun p => hf p (stored_all c p)
  subst hout
  ihave Hland := (Entails.of_eq (landings m ρ c 21 le_rfl).symm) $$ [Hrest Hfwd]
  · isplitl [Hrest]; · iexact Hrest
    iexact Hfwd
  ihave Hland := (Entails.of_eq (bigSep_recvOrd (recvPay m ρ c)).symm) $$ Hland
  ihave Hg := (gather_join m ρ c f₀) $$ [Hsp Hland]
  · isplitl [Hsp]; · iexact Hsp
    iexact Hland
  ihave Hx := (Entails.of_eq (x_split m ρ c).symm) $$ [Hx Hfst]
  · isplitl [Hx]; · iexact Hx
    iexact Hfst
  imodintro
  unfold ended staged
  isplitl [HO]; · iexact HO
  isplitl [Hx Hw Hax Haw]
  · isplitl [Hx]; · iexact Hx
    isplitl [Hw]; · iexact Hw
    isplitl [Hax]; · iexact Hax
    iexact Haw
  isplitl [Hout]; · iexact Hout
  isplitl [Hg]; · iexact Hg
  iexact Hz

/-- The body, from the handshake to the closed cells. -/
theorem sound_body (K : Dev nD × Fin 73 → ℕ) (c : Dev nD) {Q : PUnit → sProp 𝕄} (h : ended m ρ c ⊢ Q ⟨⟩) :
    ready m ρ K c (later m ρ c) ⊢ WP c (onBufs (cc0_body (F := F))) (fun r => iprop(|={Set.univ}=> Q r)) :=
  walk (G := kept (F := F) c) (fun h' => part_1 fun v2 => (met_start m ρ K c).trans (h' v2)) ((walk_end m ρ K c).trans (BI.fupd_mono h))

/-! ## The obligation -/

/-- A device's part of the ghost state: the records, its positions, the tokens of the duties it pays. -/
def ghost (K : Dev nD × Fin 73 → ℕ) (c : Dev nD) : sProp 𝕄 :=
  iprop(records m ρ K ∗ (bigSep Finset.univ fun k : Fin 73 => atPos ER (kcell (c, k)) 0 ∅ 0)
    ∗ (bigSep Finset.univ fun g : Fin 3 => dutyTok ER (barCell (bx c (dir g))) 0 g) ∗ payToks (F := F) c)
/-- What its body starts from besides its buffers: that at some names, the credits of its waits, the levels. -/
def start (c : Dev nD) : sProp 𝕄 :=
  iprop((∃ K, ghost m ρ K c) ∗ (cred (tallyAt (barCell c) () 3) ∗ bigSep used fun x => cred (tallyAt (recvCell c x) () (amt x))) ∗ levAts L lv)
def Φ₀ (c : Dev nD) : sProp 𝕄 := iprop(start m ρ c ∗ ∃ f, (c : Thread nD τ).loc cc0_scratch0 ↦{fullShare} f)
/-- What its body leaves besides: the gather buffer, every cell closed. -/
def Φ₁ (c : Dev nD) : sProp 𝕄 :=
  iprop((∃ f, (c : Thread nD τ).loc cc0_scratch0 ↦{fullShare} f) ∗ bigSep Finset.univ fun k => semVal (kcell (c, k)) 0)

/-- The call's data: the arrays as the launch finds them, the blocks after the body, the bookkeeping before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => axstg m ρ c
    | ⟨3, _⟩ => awstg m ρ c
    | ⟨4, _⟩ => outF m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- A whole buffer owned at given contents. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A buffer at given contents, as the obligation words it. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, held c cc0_stg0_0 ((dats m ρ 0 c).before (0 : Fin 5) t0_0 d)) ∗ (∃ d, held c cc0_stg1_0 ((dats m ρ 0 c).before (1 : Fin 5) t0_0 d))
    ∗ (∃ d, held c cc0_stg2_0 ((dats m ρ 0 c).before (2 : Fin 5) t0_0 d)) ∗ (∃ d, held c cc0_stg3_0 ((dats m ρ 0 c).before (3 : Fin 5) t0_0 d))
    ∗ (∃ d, held c cc0_stg4_0 ((dats m ρ 0 c).before (4 : Fin 5) t0_0 d)))
def bodyPost (c : Dev nD) : sProp 𝕄 :=
  iprop(Φ₁ (F := F) c ∗ (dats m ρ 0 c).owesAt () t0_0.succ
    ∗ held c cc0_stg0_0 (xstg m ρ c) ∗ held c cc0_stg1_0 (wstg m ρ c) ∗ held c cc0_stg2_0 (axstg m ρ c) ∗ held c cc0_stg3_0 (awstg m ρ c)
    ∗ held c cc0_stg4_0 (outF m ρ c))

theorem ended_post (c : Dev nD) : ended m ρ c ⊢ bodyPost m ρ c := by
  unfold ended staged bodyPost Φ₁ Dat.owesAt Pipeline.owesWithin
  rw [show (dats m ρ 0 c).owed t0_0.succ = 0 from rfl]
  iintro ⟨⟨%W, HO⟩, ⟨Hx, Hw, Hax, Haw⟩, Hout, Hg, Hz⟩
  isplitl [Hg Hz]
  · isplitl [Hg]; · iexact Hg
    iexact Hz
  isplitl [HO]
  · iexists W
    isplitr; · ipureintro; exact fun _ _ => Or.inl trivial
    iexact HO
  isplitl [Hx]
  · iexists (xstg m ρ c); isplitr; · ipureintro; rfl
    iexact Hx
  isplitl [Hw]
  · iexists (wstg m ρ c); isplitr; · ipureintro; rfl
    iexact Hw
  isplitl [Hax]
  · iexists (axstg m ρ c); isplitr; · ipureintro; rfl
    iexact Hax
  isplitl [Haw]
  · iexists (awstg m ρ c); isplitr; · ipureintro; rfl
    iexact Haw
  iexists (outF m ρ c); isplitr; · ipureintro; rfl
  iexact Hout

/-- Rows at given contents are rows at some. -/
theorem region_any (c : Dev nD) (x : X) (f : (cc0_scratch0 : Ref sig .tc).ty.Contents (Elt F)) :
    region c x fullShare f ⊢ iprop(∃ f, region (F := F) c x fullShare f) := by
  iintro H
  iexists f
  iexact H

theorem pre_ready (c : Dev nD) : bodyPre m ρ c ⊢ iprop(∃ K, ready m ρ K c (later m ρ c)) := by
  unfold bodyPre Φ₀ start ghost Dat.owesAt Pipeline.owesWithin
  rw [show (dats m ρ 0 c).owed t0_0.castSucc = O₀ c from rfl]
  simp only [cells_split]
  iintro ⟨⟨⟨⟨%K, #HR, ⟨Hb, Hs, Hr⟩, Htb, Ht⟩, ⟨Hcb, Hcr⟩, #HL⟩, ⟨%f, Hg⟩⟩, ⟨%W, -, HO⟩, ⟨%d0, %g0, %h0, Hx⟩, ⟨%d1, %g1, %h1, Hw⟩, ⟨%d2, %g2, %h2, Hax⟩, ⟨%d3, %g3, %h3, Haw⟩, ⟨%d4, %g4, -, Hout⟩⟩
  have e0 : g0 = xstg m ρ c := by rw [h0]; unfold Dat.before; rw [if_pos (fetch0_0 t0_0)]; rfl
  have e1 : g1 = wstg m ρ c := by rw [h1]; unfold Dat.before; rw [if_pos (fetch0_1 t0_0)]; rfl
  have e2 : g2 = axstg m ρ c := by rw [h2]; unfold Dat.before; rw [if_pos (fetch0_2 t0_0)]; rfl
  have e3 : g3 = awstg m ρ c := by rw [h3]; unfold Dat.before; rw [if_pos (fetch0_3 t0_0)]; rfl
  subst e0 e1 e2 e3
  iexists K
  unfold ready later know idle staged spare
  ihave Hs := (Entails.of_eq ((bigSep_congr fun x _ => by rw [kcell_send]).trans (used_split fun x => atPos ER (sendCell c x) 0 ∅ 0))) $$ Hs
  ihave Hr := (Entails.of_eq ((bigSep_congr fun x _ => by rw [kcell_recv]).trans (used_split fun x => atPos ER (recvCell c x) 0 ∅ 0))) $$ Hr
  icases Hs with ⟨Hs, Hus⟩
  icases Hr with ⟨Hr, Hur⟩
  ihave Hg := (Entails.of_eq (gather_split c f)) $$ Hg
  icases Hg with ⟨Hsp, Hg⟩
  isplitr
  · isplitr; · iexact HR
    iexact HL
  isplitl [HO]; · iexists W; iexact HO
  isplitl [Hb]; · iexact Hb
  isplitl [Hcb]; · iexact Hcb
  isplitl [Htb]; · iexact Htb
  isplitl [Hg]
  · have hany : (bigSep used fun x => region c x fullShare f : sProp 𝕄) ⊢ bigSep used fun x => iprop(∃ f, region (F := F) c x fullShare f) :=
      bigSep_mono fun x _ => region_any c x f
    iapply hany
    iexact Hg
  isplitl [Hs]; · iexact Hs
  isplitl [Hr Hcr]
  · rw [bigSep_sep']
    isplitl [Hr]; · iexact Hr
    iexact Hcr
  isplitl [Ht]; · iexact Ht
  isplitl [Hus Hur]
  · isplitl [Hus]; · iexact Hus
    iexact Hur
  isplitl [Hsp]; · iexists f; iexact Hsp
  isplitl [Hx Hw Hax Haw]
  · isplitl [Hx]; · iexact Hx
    isplitl [Hw]; · iexact Hw
    isplitl [Hax]; · iexact Hax
    iexact Haw
  iexists g4
  iexact Hout

set_option maxRecDepth 8000 in
/-- The library's obligation on the body, at device `c`. -/
theorem body_obligation (c : Dev nD) : BodyObligation (dats (F := F) m ρ 0 c) (defs₀ (F := F)) 𝒱₀ () Set.univ := fun t => by
  rw [fin_N0 t]
  rw [bigSep_W0, bigSep_W0]
  simp only [owns_buf]
  show bodyPre m ρ c ⊢ WP c (onBufs (cc0_body (F := F))) (fun _ => bodyPost m ρ c)
  refine (pre_ready m ρ c).trans ?_
  iintro ⟨%K, H⟩
  iapply (wp_fupd _ _ _ _ _)
  iapply (sound_body m ρ K c (Q := fun _ => bodyPost m ρ c) (ended_post m ρ c))
  iexact H

end Cert.Gather

end
-- ==== Proof.Launch.lean ====
/-
# The launch

Each device's cells are set up from its semaphores at zero, the duty tokens are dealt to the devices that pay, what all
devices owe together is what each waits for, and the call's run follows from the body's.
-/
module

public import proofs.«01_k».proof.Proof.Body
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: one to send and one to receive for each transfer number. -/
def osem : X ⊕ X → SemLoc sig := Sum.elim (fun x => .dma (sendS x)) (fun x => .dma (recvS x))

theorem osem_inj : Function.Injective osem := by
  rintro (a | a) (b | b) h <;> have h := congrArg useOf h <;> simp only [osem, Sum.elim_inl, Sum.elim_inr, useOf_send, useOf_recv] at h <;> cases h <;> rfl

theorem ownSemFacts : Pipeline.OwnSemFacts cfg0.spec osem where
  isScoped := by decide +kernel
  inj := osem_inj
  disj := by decide +kernel

/-- The barrier semaphore is the only one that outlives the call. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

/-- A device's semaphores at zero, as its cells. -/
theorem sems0_eq (c : Dev nD) :
    (bigSep Finset.univ fun k : Fin 73 => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, cells_split, kcell_bar]
  unfold Pipeline.ownSems0
  rw [bigSep_univ_sum, bigSep_congr fun x _ => congrArg (semVal · 0) (kcell_send c x), bigSep_congr fun x _ => congrArg (semVal · 0) (kcell_recv c x)]
  rfl

theorem csem_injective : Function.Injective csem := by
  intro a b h
  unfold csem at h
  split at h <;> split at h
  · exact Fin.ext (by omega)
  · cases h
  · cases h
  · injection h with h
    have := congrArg Fin.val h
    exact Fin.ext (by simp only at this; omega)

theorem kcell_injective : Function.Injective (kcell : Dev nD × Fin 73 → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]

/-- Every device's cells. -/
def allCells : Finset (GSem nD τ sig) := Finset.univ.map ⟨kcell, kcell_injective⟩

/-! ## The duty tokens -/

/-- A device's duties: its barrier's three, one for each send cell, one for each receive cell. -/
def tokOf (cj : Dev nD × (Fin 3 ⊕ X ⊕ X)) : GSem nD τ sig × ℕ × Fin 3 :=
  match cj.2 with
  | .inl g => (barCell cj.1, 0, g)
  | .inr (.inl x) => (sendCell cj.1 x, 0, 0)
  | .inr (.inr x) => (recvCell cj.1 x, 0, 0)

theorem tokOf_injective : Function.Injective tokOf := by
  rintro ⟨c, j⟩ ⟨c', j'⟩ h
  have h1 : c = c' := by
    have := congrArg (fun x : GSem nD τ sig × ℕ × Fin 3 => x.1.1.1) h
    rcases j with g | x | x <;> rcases j' with g' | x' | x' <;> exact this
  have h2 := congrArg (fun x : GSem nD τ sig × ℕ × Fin 3 => (useOf x.1.2, x.2.2)) h
  subst h1
  have : j = j' := by
    rcases j with g | x | x <;> rcases j' with g' | x' | x' <;>
      simp only [tokOf, useOf_bar, useOf_send, useOf_recv, Prod.mk.injEq, reduceCtorEq, Use.send.injEq, Use.recv.injEq, true_and, and_true, false_and] at h2 <;>
      rw [h2]
  rw [this]

/-- Every device's duties. -/
def allToks : Finset (GSem nD τ sig × ℕ × Fin 3) := Finset.univ.map ⟨tokOf, tokOf_injective⟩

/-- The ghost state at launch: the staging's, and every cell's round state with its duty tokens. -/
def u₀ : UU := (initOf (Pipeline.cells cfgs cellOf_inj) (Pipeline.launchToks cfgs cellOf_inj), initOf allCells allToks)

/-- The duty tokens of device `c`'s own cells. -/
def toks (c : Dev nD) : sProp 𝕄 :=
  iprop((bigSep Finset.univ fun g : Fin 3 => dutyTok ER (barCell c) 0 g)
    ∗ (bigSep Finset.univ fun x : X => dutyTok ER (sendCell c x) 0 0) ∗ bigSep Finset.univ fun x : X => dutyTok ER (recvCell c x) 0 0)

/-- The duty tokens device `c` pays with. -/
def pays (c : Dev nD) : sProp 𝕄 :=
  iprop((bigSep Finset.univ fun g : Fin 3 => dutyTok ER (barCell (bx c (dir g))) 0 g) ∗ payToks (F := F) c)

/-- A token of each device's cell for each `i`, dealt to the device across `d i`. -/
theorem dealt {I : Type} [Fintype I] (Φ : Dev nD → I → sProp 𝕄) (d : I → Fin 3) :
    (bigSep Finset.univ fun c : Dev nD => bigSep Finset.univ fun i : I => Φ c i)
      = bigSep Finset.univ fun c : Dev nD => bigSep Finset.univ fun i : I => Φ (bx c (dir (d i))) i := by
  let e : Dev nD × I ≃ Dev nD × I := ⟨fun p => (bx p.1 (dir (d p.2)), p.2), fun p => (bx p.1 (dir (d p.2)), p.2),
    fun p => Prod.ext (bx_dir p.1 (d p.2)) rfl, fun p => Prod.ext (bx_dir p.1 (d p.2)) rfl⟩
  rw [← bigSep_univ_prod (fun p : Dev nD × I => Φ p.1 p.2), bigSep_univ_equiv e, bigSep_univ_prod]
  rfl

/-- All tokens, dealt to the devices that pay with them; those of unused numbers are dropped. -/
theorem toks_dealt : (bigSep Finset.univ fun c : Dev nD => (toks c : sProp 𝕄)) ⊢ bigSep Finset.univ fun c : Dev nD => pays c := by
  unfold toks pays payToks
  rw [bigSep_sep', bigSep_sep', bigSep_sep', dealt (fun c g => dutyTok ER (barCell c) 0 g) id, dealt (fun c x => dutyTok ER (recvCell c x) 0 0) dn,
    bigSep_congr (s := Finset.univ) (fun (c : Dev nD) _ => bigSep_sep' used (fun x => (dutyTok ER (sendCell c x) 0 0 : sProp 𝕄)) fun x => dutyTok ER (recvCell (bx c (tg x)) x) 0 0), bigSep_sep']
  exact sep_mono_right (BIClass.sep_mono (bigSep_mono fun c _ => bigSep_subset (Finset.subset_univ _)) (bigSep_mono fun c _ => bigSep_subset (Finset.subset_univ _)))

/-! ## From the launch's ghost state to the devices' shares of it -/

/-- What the launch hands device `c`: its cells' round states, its positions, its cells' tokens. -/
def G (c : Dev nD) : sProp 𝕄 :=
  iprop((bigSep Finset.univ fun k : Fin 73 => roundState ER (Rd m ρ) (kcell (c, k)) 0)
    ∗ (bigSep Finset.univ fun k : Fin 73 => iprop(atPos ER (kcell (c, k)) 0 ∅ 0 ∗ reached ER (kcell (c, k)) 0)) ∗ toks c)

/-- What device `c` holds when all cells' invariants stand. -/
def G' (c : Dev nD) : sProp 𝕄 := iprop(∃ K, ghost m ρ K c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 73 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Device `c`'s cells' invariants are allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 73 => iprop(∃ κ : ℕ, cellInv ER (Rd m ρ) κ (kcell (c, k))))
          ∗ (bigSep Finset.univ fun k : Fin 73 => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 73 => semVal (kcell (c, k)) 0) ∗ bigSep Finset.univ fun k : Fin 73 => roundState ER (Rd m ρ) (kcell (c, k)) 0)
      ⊢ (|={Set.univ}=> bigSep Finset.univ fun k : Fin 73 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 73 → ℕ) (c : Dev nD) :
    iprop(records m ρ K ∗ (bigSep Finset.univ fun k : Fin 73 => atPos ER (kcell (c, k)) 0 ∅ 0) ∗ pays c) ⊢ G' (F := F) m ρ c := by
  unfold G' ghost pays
  iintro H
  iexists K
  iexact H

/-- A persistent fact reaches every member. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' invariants put together are every device's knowledge. -/
theorem regroup :
    (bigSep Finset.univ fun c : Dev nD => iprop((bigSep Finset.univ fun k : Fin 73 => iprop(∃ κ : ℕ, cellInv ER (Rd m ρ) κ (kcell (c, k))))
          ∗ (bigSep Finset.univ fun k : Fin 73 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 73 => iprop(∃ κ : ℕ, cellInv ER (Rd m ρ) κ (kcell ck))),
    bigSep_congr (s := Finset.univ) (fun (c : Dev nD) _ => bigSep_sep' Finset.univ (fun k : Fin 73 => (atPos ER (kcell (c, k)) 0 ∅ 0 : sProp 𝕄)) (fun k => reached ER (kcell (c, k)) 0)),
    bigSep_sep', ← bigSep_univ_prod (fun ck : Dev nD × Fin 73 => (reached ER (kcell ck) 0 : sProp 𝕄))]
  iintro ⟨HI, ⟨Hat, #HR⟩, Htok⟩
  ihave HK := (BI.bigSep_exists_pi Finset.univ (fun (ck : Dev nD × Fin 73) (κ : ℕ) => (cellInv ER (Rd m ρ) κ (kcell ck) : sProp 𝕄))) $$ HI
  icases HK with ⟨%K, #HI⟩
  ihave Htk := (toks_dealt (F := F)) $$ Htok
  iapply (with_persistent (R := records m ρ K) fun c _ => ghost_intro m ρ K c)
  isplitr
  · unfold records; isplitl; · iexact HI
    iexact HR
  · rw [bigSep_sep']
    isplitl [Hat]; · iexact Hat
    iexact Htk

/-- The step all devices take together: the cells are set up and everything is dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What is owed to each cell -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {x y : X} : Iff (recvCell a x = recvCell b y) (a = b ∧ x = y) := by
  refine ⟨fun h => ⟨Fin.ext (congrArg (fun g : GSem nD τ sig => g.1.1.val) h), ?_⟩, fun h => by rw [h.1, h.2]⟩
  have := congrArg (fun g : GSem nD τ sig => useOf g.2) h
  simp only [useOf_recv, Use.recv.injEq] at this
  exact this
theorem bar_ne_recv {a b : Dev nD} {x : X} : barCell a ≠ recvCell b x := fun h => by
  have := congrArg (fun g : GSem nD τ sig => useOf g.2) h
  simp only [useOf_recv, useOf_bar, reduceCtorEq] at this

/-- The landings device `d` owes, over the used numbers. -/
theorem Orest_all (d : Dev nD) : Orest d 0 = ∑ x ∈ used, tallyAt (recvCell (bx d (tg x)) x) () (amt x) := by
  unfold Orest
  rw [← sendOrd_image, Finset.sum_image sendOrd_injOn, Finset.range_eq_Ico]

/-- Of the barrier of `c`, device `d` owes a unit for each direction that leads from `d` to `c`. -/
theorem owed_bar (d c : Dev nD) : O₀ d (barCell c) ()
    = ((if d = bx c (dir 2) then 1 else 0) + if d = bx c (dir 1) then 1 else 0) + if d = bx c (dir 0) then 1 else 0 := by
  have hb (g : Fin 3) : (tallyAt (barCell (bx d (dir g))) () 1 : CellTallies nD τ sig Unit) (barCell c) () = if d = bx c (dir g) then 1 else 0 := by
    rw [tallyAt_apply]
    refine if_congr ⟨fun h => ?_, fun h => ⟨?_, rfl⟩⟩ rfl rfl
    · rw [bar_eq_iff.mp h.1, bx_dir]
    · rw [h, bx_dir]
  have hr : Orest d 0 (barCell c) () = 0 := by
    rw [Orest_all, Finset.sum_apply, Finsupp.finset_sum_apply]
    exact Finset.sum_eq_zero fun x _ => by rw [tallyAt_apply, if_neg fun h => bar_ne_recv h.1]
  unfold O₀ O₁ O₂
  rw [Pi.add_apply, Finsupp.add_apply, Pi.add_apply, Finsupp.add_apply, Pi.add_apply, Finsupp.add_apply, hb, hb, hb, hr, Nat.zero_add]

/-- Of the receive cell of a used `x` at `c`, the device across owes its piece's credit. -/
theorem owed_recv (d c : Dev nD) (x : X) (hx : x ∈ used) : O₀ d (recvCell c x) () = if d = bx c (tg x) then amt x else 0 := by
  have hb (g : Fin 3) : (tallyAt (barCell (bx d (dir g))) () 1 : CellTallies nD τ sig Unit) (recvCell c x) () = 0 := by
    rw [tallyAt_apply, if_neg fun h => bar_ne_recv h.1.symm]
  unfold O₀ O₁ O₂
  rw [Pi.add_apply, Finsupp.add_apply, Pi.add_apply, Finsupp.add_apply, Pi.add_apply, Finsupp.add_apply, hb, hb, hb, Orest_all,
    Finset.sum_apply, Finsupp.finset_sum_apply, Finset.sum_eq_single x (fun y _ hy => by rw [tallyAt_apply, if_neg fun h => hy (recv_eq_iff.mp h.1).2.symm])
      (fun h => absurd hx h), tallyAt_apply]
  refine if_congr ⟨fun h => ?_, fun h => ⟨?_, rfl⟩⟩ rfl rfl
  · rw [(recv_eq_iff.mp h.1).1, bx_bx]
  · rw [h, bx_bx]

/-- All devices together owe a barrier three units, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

/-- and the receive cell of a used number its piece's credit. -/
theorem launch_recv (c : Dev nD) (x : X) (hx : x ∈ used) :
    tallyOn (recvCell c x) (launchCredit (Pipeline.owing O₀) 0 (recvCell c x)) = (tallyAt (recvCell c x) () (amt x) : CellTallies nD τ sig Unit) := by
  unfold tallyAt; refine congrArg _ (Finsupp.ext fun u => ?_); cases u
  rw [Pipeline.launchCredit_owing, Finsupp.single_eq_same, Finset.sum_congr rfl fun d _ => owed_recv d c x hx]
  simp only [Finset.sum_ite_eq', Finset.mem_univ, if_true]

/-- A receive cell's semaphore is not the barrier's, and its number can be told. -/
theorem recv_ne_bar (x : X) : (SemLoc.dma (recvS x) : SemLoc sig) ≠ .reg barS := fun h => by
  have := congrArg useOf h
  simp only [useOf_recv, useOf_bar, reduceCtorEq] at this
theorem recv_injOn : Set.InjOn (fun x : X => (SemLoc.dma (recvS x) : SemLoc sig)) (used : Set X) := fun a _ b _ h => by
  have := congrArg useOf h
  simp only [useOf_recv, Use.recv.injEq] at this
  exact this
/-- Of anything for each semaphore but the barrier's, the used receive semaphores' part. -/
theorem only_recv (Φ : SemLoc sig → sProp 𝕄) :
    bigSep (Finset.univ.erase (SemLoc.reg barS)) Φ ⊢ bigSep used fun x => Φ (.dma (recvS x)) := by
  refine BIBase.Entails.trans (bigSep_subset (t := used.image fun x : X => (SemLoc.dma (recvS x) : SemLoc sig)) fun y hy => ?_) (Entails.of_eq (bigSep_image_of_injOn recv_injOn Φ))
  obtain ⟨x, -, rfl⟩ := Finset.mem_image.mp hy
  exact Finset.mem_erase.mpr ⟨recv_ne_bar x, Finset.mem_univ _⟩

/-- So device `c` has the credit of each of its waits. -/
theorem creds (c : Dev nD) :
    (Pipeline.launchCred O₀ c : sProp 𝕄)
      ⊢ iprop(cred (tallyAt (barCell c) () 3) ∗ bigSep used fun x => cred (tallyAt (recvCell c x) () (amt x))) := by
  unfold Pipeline.launchCred
  rw [bigSep_univ_at _ (SemLoc.reg barS), launch_bar]
  refine sep_mono_right (BIBase.Entails.trans (only_recv _) (bigSep_mono fun x hx => ?_))
  exact Entails.of_eq (congrArg cred (launch_recv c x hx))

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  rw [sems0_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Device `c`'s array of window `w` after the run. -/
def finalA (c : Dev nD) (w : Fin cfg0.W) : Buf (Elt F) ((cfg0.win w).arr.view.loc (c : Thread nD τ)) := (dats m ρ 0 c).arrAt w cfg0.N

/-- Every device's arrays hold their final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, for any float values, from any memory with zero counters, every weakly fair execution of `@main`
    terminates, and every final state has each device's arrays at their computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays are unchanged. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.Gather

end
-- ==== Proof.KernelValue.lean ====
/-
# What each device's result holds

At exact arithmetic every element of a device's result is the product of a row of the gathered `x` and a column of the
device's part of `w`, times the scales' product, cut below at zero. The arrays of the call are staged and written back whole.
-/
module

public import proofs.«01_k».proof.Proof.Launch
public import Idealize.ShloMosaic.Lib.Pointwise

@[expose] public section

noncomputable section

namespace Cert.Gather

open Cert.KernelIdeal Cert.KernelIdeal.Gen

open Idealize.ShloMosaic
open Idealize.ShloMosaic.TcCoe
open Idealize.SL.Sem
open Idealize.ShloMosaic.Pipeline (Dat)

/-! ## The arrays are staged and written back whole -/

section Whole

variable {F : FTy → Type} [FloatOps F]
variable (m : (ℓ : Loc nD τ sig) → Buf (Elt F) ℓ) (ρ : Dev nD → PrngReg)

/-- What is staged of `x` is the device's whole argument; -/
theorem xstg_eq (c : Dev nD) : xstg m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
/-- of `w`; -/
theorem wstg_eq (c : Dev nD) : wstg m ρ c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _
/-- of the two scales. -/
theorem axstg_eq (c : Dev nD) : axstg m ρ c = m ((c : Thread nD τ).loc main_arg2) :=
  Memref.read_access_unit_zero (Elt F) main_arg2 (off := fun a => win0_2.index (0 : Fin 1) a * main_arg2.ty.shape.size a)
    (funext fun a => by fin_cases a; decide) (fun a => by fin_cases a; decide) _
theorem awstg_eq (c : Dev nD) : awstg m ρ c = m ((c : Thread nD τ).loc main_arg3) :=
  Memref.read_access_unit_zero (Elt F) main_arg3 (off := fun a => win0_3.index (0 : Fin 1) a * main_arg3.ty.shape.size a)
    (funext fun a => by fin_cases a; decide) (fun a => by fin_cases a; decide) _

/-- The result array after the run holds what the body left in its staging buffer. -/
theorem final_out (c : Dev nD) : finalA m ρ c (4 : Fin 5) = outF m ρ c := by
  have ho : ((cfg0.win (4 : Fin 5)).blk (0 : Fin 1)).view.read (Elt F) (finalA m ρ c (4 : Fin 5)) = (dats m ρ 0 c).flushed (4 : Fin 5) (0 : Fin 1) := by
    unfold finalA
    rw [show cfg0.N = (0 : Fin 1).val + 1 from rfl, (dats (F := F) m ρ 0 c).arrAt_succ (4 : Fin 5) (0 : Fin 1)]
    rw [show (cfg0.win (4 : Fin 5)).flush (0 : Fin 1) = true from by decide, if_pos rfl]
    exact View.read_write_univ _ _
  have hr := Memref.read_access_unit_zero (Elt F) main_v1 (off := fun a => win0_4.index (0 : Fin 1) a * main_v1.ty.shape.size a)
    (funext fun a => by fin_cases a <;> decide) (fun a => by fin_cases a <;> decide) (finalA m ρ c (4 : Fin 5))
  exact (hr.symm.trans ho).trans rfl

/-- The run with the result named and the arguments unchanged. -/
theorem run_value : θ_run defs (onTc (τ := τ) (main (F := F))) ⟨m, fun _ => 0, ρ⟩ (fun r => (∀ c : Dev nD,
      r.2.mem ((c : Thread nD τ).loc main_v1) = outF m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c => ⟨(h.1 c 4).trans (final_out m ρ c), (h.1 c 0).trans (finalA_in m ρ c 0 rfl),
    (h.1 c 1).trans (finalA_in m ρ c 1 rfl), (h.1 c 2).trans (finalA_in m ρ c 2 rfl), (h.1 c 3).trans (finalA_in m ρ c 3 rfl)⟩, h.2⟩) (run_main m ρ)

end Whole

/-! ## The tiles, element by element -/

/-- A row times a column, scaled, cut below at zero. -/
def cell (r w : Fin 4096 → EReal) (s : EReal) : EReal := max ((∑ k, r k * w k) * s) 0

theorem own_apply (X : Vec Ideal S512x4096 .fp8e4m3) (W : Vec Ideal S4096x256 .fp8e5m2) (a b : Elt Ideal .f32) (y : S512x256.Idx) :
    k0_pay2 (F := Ideal) (k0_pay1 X W) a b y = cell (fun k => X (ix2 (y 0) k)) (fun k => W (ix2 k (y 1))) (a * b) := by
  unfold k0_pay2 k0_pay1 cell
  pointwise
theorem pay160_apply (X : Vec Ideal S160x4096 .fp8e4m3) (W : Vec Ideal S4096x256 .fp8e5m2) (a b : Elt Ideal .f32) (y : S160x256.Idx) :
    k0_pay3 (F := Ideal) X W a b y = cell (fun k => X (ix2 (y 0) k)) (fun k => W (ix2 k (y 1))) (a * b) := by
  unfold k0_pay3 cell
  pointwise
theorem pay192_apply (X : Vec Ideal S192x4096 .fp8e4m3) (W : Vec Ideal S4096x256 .fp8e5m2) (a b : Elt Ideal .f32) (y : S192x256.Idx) :
    k0_pay10 (F := Ideal) X W a b y = cell (fun k => X (ix2 (y 0) k)) (fun k => W (ix2 k (y 1))) (a * b) := by
  unfold k0_pay10 cell
  pointwise

variable (m : (ℓ : Loc nD τ sig) → Buf (Elt Ideal) ℓ) (ρ : Dev nD → PrngReg)

/-- Every element of device `c`'s result: a row of the gathered `x` times a column of the device's part of `w`. -/
theorem outF_apply (c : Dev nD) (p : S4096x256.Idx) :
    outF m ρ c p = cell (fun k => rowAt m ρ (p 0).val k) (fun k => wstg m ρ c (ix2 k (p 1))) (axv m ρ c * awv m ρ c) := by
  have hp : (p 0).val < 4096 := (p 0).isLt
  unfold outF
  split
  case isTrue h =>
    unfold tOwn
    rw [own_apply]
    have e : (⟨(p 0).val / 512 % 8, Nat.mod_lt _ (by decide)⟩ : Dev nD) = c := Fin.ext (by show (p 0).val / 512 % 8 = c.val; have := c.isLt; omega)
    unfold rowAt
    rw [e]
    rfl
  case isFalse h =>
    split
    case isTrue h1 =>
      unfold t160
      rw [pay160_apply]
      have e : 512 * ((p 0).val / 512) + (p 0).val % 512 = (p 0).val := by omega
      conv_rhs => rw [← e]
      rfl
    case isFalse h1 =>
      split
      case isTrue h2 =>
        unfold t160
        rw [pay160_apply]
        have e : 512 * ((p 0).val / 512) + 160 + ((p 0).val % 512 - 160) = (p 0).val := by omega
        conv_rhs => rw [← e]
        rfl
      case isFalse h2 =>
        unfold t192
        rw [pay192_apply]
        have e : 512 * ((p 0).val / 512) + 320 + ((p 0).val % 512 - 320) = (p 0).val := by omega
        conv_rhs => rw [← e]
        rfl

end Cert.Gather

end
-- ==== Proof.ReferenceValue.lean ====
/-
# What the reference's result holds

The reference is one call without a grid: its result is its one store's payload at the whole arguments.
-/
module

public import proofs.«01_k».proof.Proof.Gen.ReferenceIdeal.Value
public import Idealize.ShloMosaic.Lib.Pointwise

@[expose] public section

noncomputable section

namespace Cert.Whole

open Cert.ReferenceIdeal Cert.ReferenceIdeal.Gen Cert.ReferenceIdeal.Value

open Idealize.ShloMosaic
open Idealize.ShloMosaic.TcCoe
open Idealize.SL.Sem
open Idealize.ShloMosaic.Pipeline (Dat)

/-- The one place of a scale. -/
abbrev one : S1.Idx := Shape.Idx.first (s := S1) (by decide)

section Whole

variable {F : FTy → Type} [FloatOps F]

theorem hz : (![0, 0] : Fin 2 → Nat) = fun _ => 0 := funext fun a => by fin_cases a <;> rfl

/-- The body leaves its one store's payload, read off the whole blocks. -/
theorem out_eq (c : Dev nD) (arg0 : Memref sig .tc .vmem S4096x4096 .fp8e4m3) (h0 : arg0.IsWhole) (arg1 : Memref sig .tc .vmem S4096x2048 .fp8e5m2) (h1 : arg1.IsWhole)
    (arg2 : Memref sig .tc .smem S1 .f32) (h2 : arg2.IsWhole) (arg3 : Memref sig .tc .smem S1 .f32) (h3 : arg3.IsWhole) (arg4 : Memref sig .tc .vmem S4096x2048 .f32) (h4 : arg4.IsWhole)
    (x : Vec F S4096x4096 .fp8e4m3) (w : Vec F S4096x2048 .fp8e5m2) (a b : Vec F S1 .f32) :
    out0_A_4 c arg0 h0 arg1 h1 arg2 h2 arg3 h3 arg4 h4 x w a b = k0_pay1 x w (a one) (b one) := by
  unfold out0_A_4
  rw [View.read_writes_junk_eq_canon]
  unfold kernelRun0_A
  dsimp only
  rw [View.canon_unit_zero hz]
  unfold kernelRun0_A.sl.r kernelRun0_A.sl.r_1
  simp only [View.readAt_eq_ld, h0.read_unread, h1.read_unread, h2.read_unread, h3.read_unread, View.ld_unit_zero (S := S4096x4096) hz, View.ld_unit_zero (S := S4096x2048) hz]
  exact congrArg₂ (k0_pay1 x w) (congrArg a (funext fun i => by match i with | ⟨0, _⟩ => rfl)) (congrArg b (funext fun i => by match i with | ⟨0, _⟩ => rfl))

variable (m : (ℓ : Loc nD τ sig) → Buf (Elt F) ℓ) (ρ : Dev nD → PrngReg)

/-- The result as one function of the arguments. -/
def whole (c : Dev nD) : Buf (Elt F) ((c : Thread nD τ).loc main_v0) :=
  k0_pay1 (F := F) (m ((c : Thread nD τ).loc main_arg0)) (m ((c : Thread nD τ).loc main_arg1)) (m ((c : Thread nD τ).loc main_arg2) one) (m ((c : Thread nD τ).loc main_arg3) one)

/-- The result array after the run is that function. -/
theorem final_value (c : Dev nD) : (dats (F := F) m 0 c).arrAt (4 : Fin 5) cfg0.N = whole m c := by
  have ho := blocks4 (F := F) m c t0_0 (by decide)
  have hr4 := fun f => Memref.read_access_unit_zero (Elt F) main_v0 (off := fun a => win0_4.index t0_0 a * main_v0.ty.shape.size a)
    (funext fun a => by fin_cases a <;> decide) (fun a => by fin_cases a <;> decide) f
  have hr0 := fun f => Memref.read_access_unit_zero (Elt F) main_arg0 (off := fun a => win0_0.index t0_0 a * main_arg0.ty.shape.size a)
    (funext fun a => by fin_cases a <;> decide) (fun a => by fin_cases a <;> decide) f
  have hr1 := fun f => Memref.read_access_unit_zero (Elt F) main_arg1 (off := fun a => win0_1.index t0_0 a * main_arg1.ty.shape.size a)
    (funext fun a => by fin_cases a <;> decide) (fun a => by fin_cases a <;> decide) f
  have hr2 := fun f => Memref.read_access_unit_zero (Elt F) main_arg2 (off := fun a => win0_2.index t0_0 a * main_arg2.ty.shape.size a)
    (funext fun a => by fin_cases a; decide) (fun a => by fin_cases a; decide) f
  have hr3 := fun f => Memref.read_access_unit_zero (Elt F) main_arg3 (off := fun a => win0_3.index t0_0 a * main_arg3.ty.shape.size a)
    (funext fun a => by fin_cases a; decide) (fun a => by fin_cases a; decide) f
  rw [flushed4_A, out_eq] at ho
  rw [hr4] at ho
  rw [ho]
  unfold iblk whole
  rw [hr0, hr1, hr2, hr3]
  rfl

/-- The run with the result named and the arguments unchanged. -/
theorem run_value : θ_run defs (onTc (τ := τ) (main (F := F))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_value m c), (h c).2⟩) (run_blocks m ρ)

end Whole

/-- Every element of the reference's result, at exact arithmetic. -/
theorem pay_apply (X : Vec Ideal S4096x4096 .fp8e4m3) (W : Vec Ideal S4096x2048 .fp8e5m2) (a b : Elt Ideal .f32) (y : S4096x2048.Idx) :
    k0_pay1 (F := Ideal) X W a b y = max ((∑ k : Fin 4096, X (ix2 (y 0) k) * W (ix2 k (y 1))) * (a * b)) 0 := by
  unfold k0_pay1
  pointwise

end Cert.Whole

end
-- ==== Proof.Agree.lean ====
/-
# The kernel's results are the reference's, part by part

Row `512·d + r` of the whole `x` is row `r` of device `d`'s part, and the gathered rows are read so; column `256·c + n` of
the whole `w` is column `n` of device `c`'s part. So every element of device `c`'s result is the reference's element at the
same row and `256·c` columns further.
-/
module

public import proofs.«01_k».proof.Defs
public import proofs.«01_k».proof.Proof.KernelValue
public import proofs.«01_k».proof.Proof.ReferenceValue
public import Idealize.ShloMosaic.Lib.Layout

@[expose] public section

noncomputable section

namespace Cert.Agree

open Idealize.ShloMosaic
open Idealize.ShloMosaic.TcCoe
open Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The whole arrays: `x`, -/
abbrev wholeX : Vec Ideal ⟨2, ![4096, 4096]⟩ .fp8e4m3 := m' (((0 : Dev Cert.ReferenceIdeal.nD) : Thread Cert.ReferenceIdeal.nD Cert.ReferenceIdeal.τ).loc Cert.ReferenceIdeal.main_arg0)
/-- `w`, -/
abbrev wholeW : Vec Ideal ⟨2, ![4096, 2048]⟩ .fp8e5m2 := m' (((0 : Dev Cert.ReferenceIdeal.nD) : Thread Cert.ReferenceIdeal.nD Cert.ReferenceIdeal.τ).loc Cert.ReferenceIdeal.main_arg1)
/-- and the scales. -/
abbrev wholeA : Vec Ideal ⟨1, ![1]⟩ .f32 := m' (((0 : Dev Cert.ReferenceIdeal.nD) : Thread Cert.ReferenceIdeal.nD Cert.ReferenceIdeal.τ).loc Cert.ReferenceIdeal.main_arg2)
abbrev wholeB : Vec Ideal ⟨1, ![1]⟩ .f32 := m' (((0 : Dev Cert.ReferenceIdeal.nD) : Thread Cert.ReferenceIdeal.nD Cert.ReferenceIdeal.τ).loc Cert.ReferenceIdeal.main_arg3)

/-- Row `R` gathered from the devices' parts is row `R` of the whole `x`. -/
theorem row_eq (hx : ∀ c : Dev Cert.KernelIdeal.nD, m ((c : Thread Cert.KernelIdeal.nD Cert.KernelIdeal.τ).loc Cert.KernelIdeal.main_arg0)
      = Layout.block ⟨2, ![512, 4096]⟩ ⟨2, ![4096, 4096]⟩ 0 8 c (wholeX m'))
    (R : Fin 4096) (k : Fin 4096) : Cert.Gather.rowAt m ρ R.val k = wholeX m' (ix2 R k) := by
  have hR := R.isLt
  unfold Cert.Gather.rowAt
  rw [Cert.Gather.xstg_eq, hx, Layout.block_apply]
  refine congrArg (wholeX m') (funext fun a => Fin.ext ?_)
  fin_cases a
  · show R.val / 512 % 8 * 512 + R.val % 512 = R.val
    omega
  · rfl

/-- Column `n` of device `c`'s part of `w` is the whole's column `256·c` further. -/
theorem col_eq (hw : ∀ c : Dev Cert.KernelIdeal.nD, m ((c : Thread Cert.KernelIdeal.nD Cert.KernelIdeal.τ).loc Cert.KernelIdeal.main_arg1)
      = Layout.block ⟨2, ![4096, 256]⟩ ⟨2, ![4096, 2048]⟩ 1 8 c (wholeW m'))
    (c : Dev Cert.KernelIdeal.nD) (k : Fin 4096) (n : Fin 256) (n' : Fin 2048) (hn : n'.val = c.val * 256 + n.val) :
    Cert.Gather.wstg m ρ c (ix2 k n) = wholeW m' (ix2 k n') := by
  rw [Cert.Gather.wstg_eq, hw, Layout.block_apply]
  refine congrArg (wholeW m') (funext fun a => Fin.ext ?_)
  fin_cases a
  · rfl
  · exact hn.symm

/-- Device `c`'s result is its part of the reference's. -/
theorem out_block
    (hx : ∀ c : Dev Cert.KernelIdeal.nD, m ((c : Thread Cert.KernelIdeal.nD Cert.KernelIdeal.τ).loc Cert.KernelIdeal.main_arg0)
      = Layout.block ⟨2, ![512, 4096]⟩ ⟨2, ![4096, 4096]⟩ 0 8 c (wholeX m'))
    (hw : ∀ c : Dev Cert.KernelIdeal.nD, m ((c : Thread Cert.KernelIdeal.nD Cert.KernelIdeal.τ).loc Cert.KernelIdeal.main_arg1)
      = Layout.block ⟨2, ![4096, 256]⟩ ⟨2, ![4096, 2048]⟩ 1 8 c (wholeW m'))
    (ha : ∀ c : Dev Cert.KernelIdeal.nD, m ((c : Thread Cert.KernelIdeal.nD Cert.KernelIdeal.τ).loc Cert.KernelIdeal.main_arg2) = wholeA m')
    (hb : ∀ c : Dev Cert.KernelIdeal.nD, m ((c : Thread Cert.KernelIdeal.nD Cert.KernelIdeal.τ).loc Cert.KernelIdeal.main_arg3) = wholeB m')
    (c : Dev Cert.KernelIdeal.nD) :
    Cert.Gather.outF m ρ c = Layout.block ⟨2, ![4096, 256]⟩ ⟨2, ![4096, 2048]⟩ 1 8 c (Cert.Whole.whole m' (0 : Dev Cert.ReferenceIdeal.nD)) := by
  funext p
  rw [Cert.Gather.outF_apply, Layout.block_apply]
  unfold Cert.Whole.whole
  rw [Cert.Whole.pay_apply]
  unfold Cert.Gather.cell Cert.Gather.axv Cert.Gather.awv
  rw [Cert.Gather.axstg_eq, Cert.Gather.awstg_eq, ha, hb]
  refine congrArg (fun t : EReal => max (t * (wholeA m' Cert.Whole.one * wholeB m' Cert.Whole.one)) 0) (Finset.sum_congr rfl fun k _ => congrArg₂ (fun s t : EReal => s * t) ?_ ?_)
  · exact row_eq m ρ m' hx (p 0) k
  · exact col_eq m ρ m' hw c k (p 1) _ rfl

end Cert.Agree

end
-- ==== Proof.SameText.lean ====
/-
# The kernel and its ideal reading are one text

The two printed programs differ in nothing but their names, so a run of the one is a run of the other.
-/
module

public import proofs.«01_k».proof.Defs
public import proofs.«01_k».proof.Proof.Gen.Kernel
public import proofs.«01_k».proof.Proof.Gen.KernelIdeal

@[expose] public section

noncomputable section

namespace Cert.SameText

open Idealize.ShloMosaic Idealize.SL.Sem

variable {F : FTy → Type} [FloatOps F]

/-- The bodies are the same; -/
theorem body_eq : Cert.Kernel.cc0_body (F := F) = Cert.KernelIdeal.cc0_body (F := F) := rfl

/-- so are the labels' bodies, -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => simp only [body_eq]

/-- the body table with the call's pipeline, -/
theorem defs_eq : Cert.Kernel.defs (F := F) = Cert.KernelIdeal.defs (F := F) :=
  congrArg (Pipeline.defs (Cert.Kernel.pcfgs (F := F))) bodies_eq

/-- and the entry. -/
theorem main_eq : Cert.Kernel.main (F := F) = Cert.KernelIdeal.main (F := F) := rfl

end Cert.SameText

end
-- ==== Proof.lean ====
/-
# The certificate of the all-gather matrix product

The run of the kernel is proved once for all float interpretations (`Cert.Gather.run_main`); both its frames and the
equality with the reference are taken from it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Agree
public import proofs.«01_k».proof.Proof.SameText
public import Idealize.ShloMosaic.Adequacy
public import Idealize.ShloMosaic.Init

@[expose] public section

noncomputable section

namespace Cert.Proof

open Idealize.ShloMosaic Idealize.SL.Sem

/-- The kernel runs from every memory, keeps its arguments and leaves every counter at zero: the run at bits. -/
theorem frame_kernel : Cert.quiescent_Kernel (hKernel := Cert.Kernel.Gen.facts) := fun m ρ _ =>
  (congrArg (fun d => θ_run d (onTc (Cert.Kernel.main (F := Bits))) ⟨m, fun _ => 0, ρ⟩ _) Cert.SameText.defs_eq).mpr
    ((θ_run Cert.KernelIdeal.defs (onTc Cert.KernelIdeal.main) ⟨m, fun _ => 0, ρ⟩).mono (fun _ h => ⟨fun c => (h.1 c).2, h.2⟩) (Cert.Gather.run_value (F := Bits) m ρ))

/-- The same at exact arithmetic. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.Gather.run_value (F := Ideal) m ρ)

/-- Each device's result is its part of the reference's result. -/
theorem algebraic : Cert.algebraic_KernelIdeal_ReferenceIdeal (hKernelIdeal := Cert.KernelIdeal.Gen.facts) (hReferenceIdeal := Cert.ReferenceIdeal.Gen.facts) :=
  fun m g m' g' _ h => ⟨Cert.Whole.whole m' 0,
    (θ_run Cert.KernelIdeal.defs _ _).mono
      (fun _ hr c => ⟨(hr.1 c).1.trans (Cert.Agree.out_block m g m' (fun d => (h d).1) (fun d => (h d).2.1) (fun d => (h d).2.2.1) (fun d => (h d).2.2.2) c), (hr.1 c).2⟩)
      (Cert.Gather.run_value (F := Ideal) m g),
    (θ_run Cert.ReferenceIdeal.defs _ _).mono (fun _ hr => hr 0) (Cert.Whole.run_value (F := Ideal) m' g')⟩

theorem claim : Cert.Claim :=
  ⟨Cert.Kernel.Gen.facts, Cert.KernelIdeal.Gen.facts, Cert.ReferenceIdeal.Gen.facts, frame_kernel, frame_ideal,
    fun m ρ _ => Cert.ReferenceIdeal.Gen.frame m ρ, trivial, algebraic⟩

end Cert.Proof

end
